-- ==== Defs.lean ====
def Pre_Kernel [hPre_classes : Cert.Pre_classes.Facts] (m : (ℓ : Loc Cert.Kernel.nD Cert.Kernel.τ Cert.Kernel.sig) → Buf (Elt Bits) ℓ) : Prop :=
  ∀ c : Dev Cert.Kernel.nD,
    (Cert.Pre_classes.fn (F := Bits) (m ((c.tc : Thread Cert.Kernel.nD Cert.Kernel.τ).loc Cert.Kernel.main_arg0))) = (fun _ => 1#1)

def Pre_KernelIdeal [hPre_classes : Cert.Pre_classes.Facts] (m : (ℓ : Loc Cert.KernelIdeal.nD Cert.KernelIdeal.τ Cert.KernelIdeal.sig) → Buf (Elt Ideal) ℓ) : Prop :=
  ∀ c : Dev Cert.KernelIdeal.nD,
    (Cert.Pre_classes.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes [hPre_classes : Cert.Pre_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes.fn (F := Ideal) (m ((c.tc : Thread Cert.ReferenceIdeal.nD Cert.ReferenceIdeal.τ).loc Cert.ReferenceIdeal.main_arg0))) = (fun _ => 1#1)

def quiescent_Kernel [hKernel : Cert.Kernel.Facts] [hPre_classes : Cert.Pre_classes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_classes : Cert.Pre_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_classes [hReferenceIdeal : Cert.ReferenceIdeal.Facts] [hPre_classes : Cert.Pre_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_classes : Cert.Pre_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_classes : Cert.Pre_classes.Facts),
    quiescent_Kernel (hKernel := hKernel) (hPre_classes := hPre_classes)
    ∧ quiescent_KernelIdeal (hKernelIdeal := hKernelIdeal) (hPre_classes := hPre_classes)
    ∧ quiescent_ReferenceIdeal (hReferenceIdeal := hReferenceIdeal)
    ∧ quiescent_ReferenceIdeal_pre_classes (hReferenceIdeal := hReferenceIdeal) (hPre_classes := hPre_classes)
    ∧ preserves_Kernel_KernelIdeal
    ∧ algebraic_KernelIdeal_ReferenceIdeal (hKernelIdeal := hKernelIdeal) (hReferenceIdeal := hReferenceIdeal) (hPre_classes := hPre_classes)
-- ==== Pre_classes.lean ====
abbrev S1024x200 : Shape := ⟨2, ![1024, 200]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 1000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S200x1024 : Shape := ⟨2, ![200, 1024]⟩
abbrev S204800 : Shape := ⟨1, ![204800]⟩
abbrev S200000x1024 : Shape := ⟨2, ![200000, 1024]⟩
abbrev S128 : Shape := ⟨1, ![128]⟩
abbrev S1000x128 : Shape := ⟨2, ![1000, 128]⟩
abbrev S_ : Shape := ⟨0, ![]⟩
abbrev S16 : Shape := ⟨1, ![16]⟩
abbrev S1x16 : Shape := ⟨2, ![1, 16]⟩
abbrev S200x1000x1024 : Shape := ⟨3, ![200, 1000, 1024]⟩
abbrev S1024x200x1000 : Shape := ⟨3, ![1024, 200, 1000]⟩

abbrev nBuf : Table → Nat
  | .hbm => 6
  | .local .scVector .vmem => 3
  | _ => 0

abbrev bufTy : (tb : Table) → Fin (nBuf tb) → BufTy
  | .hbm, ⟨0, _⟩ => ⟨S1024x200, .i32⟩
  | .hbm, ⟨1, _⟩ => ⟨S200x1024, .i32⟩
  | .hbm, ⟨2, _⟩ => ⟨S204800, .i32⟩
  | .hbm, ⟨3, _⟩ => ⟨S200000x1024, .f32⟩
  | .hbm, ⟨4, _⟩ => ⟨S200x1000x1024, .f32⟩
  | .hbm, ⟨5, _⟩ => ⟨S1024x200x1000, .f32⟩
  | .local .scVector .vmem, ⟨0, _⟩ => ⟨S128, .i32⟩
  | .local .scVector .vmem, ⟨1, _⟩ => ⟨S128, .i32⟩
  | .local .scVector .vmem, ⟨2, _⟩ => ⟨S1000x128, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v1_scv : Ref sig .scVector := ⟨.hbm, 2, rfl⟩
abbrev main_v2_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c1000_i32 : BitVec 32 := 1000#32
  let v5 : BitVec 32 := Scalar.addi c0_i32_1 c1000_i32
  let c1_i32 : BitVec 32 := 1#32
  ⟨c0_i32_1, v5, c1_i32⟩
def k0_off1 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v17 : Index := Scalar.indexCast arg9
  let c0 : Index := 0#32
  ![v17.toNat, 0]
def k0_off2 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v19 : Index := Scalar.indexCast arg9
  let c16 : Index := 16#32
  ![v19.toNat, 16]
def k0_off3 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v21 : Index := Scalar.indexCast arg9
  let c32 : Index := 32#32
  ![v21.toNat, 32]
def k0_off4 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v23 : Index := Scalar.indexCast arg9
  let c48 : Index := 48#32
  ![v23.toNat, 48]
def k0_off5 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v25 : Index := Scalar.indexCast arg9
  let c64 : Index := 64#32
  ![v25.toNat, 64]
def k0_off6 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v27 : Index := Scalar.indexCast arg9
  let c80 : Index := 80#32
  ![v27.toNat, 80]
def k0_off7 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v29 : Index := Scalar.indexCast arg9
  let c96 : Index := 96#32
  ![v29.toNat, 96]
def k0_off8 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v31 : Index := Scalar.indexCast arg9
  let c112 : Index := 112#32
  ![v31.toNat, 112]
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v6 : BitVec 32 := Scalar.muli v1 c50_i32
  let c0_i32_3 : BitVec 32 := 0#32
  let v7 : BitVec 32 := Scalar.addi v6 c0_i32_3
  let c128_i32 : BitVec 32 := 128#32
  let v8 : BitVec 32 := Scalar.muli v7 c128_i32
  ![v8.toNat]
@[reducible] def k0_t2_loop : Scf.Loop 32 :=
  let c0_i32_8 : BitVec 32 := 0#32
  let c25_i32 : BitVec 32 := 25#32
  let v16 : BitVec 32 := Scalar.addi c0_i32_8 c25_i32
  let c1_i32_9 : BitVec 32 := 1#32
  ⟨c0_i32_8, v16, c1_i32_9⟩
def k0_cond1 (k0_t2 : Fin k0_t2_loop.trips) : BitVec 1 :=
  let c0_i32_8 : BitVec 32 := 0#32
  let c1_i32_9 : BitVec 32 := 1#32
  let arg9 : BitVec 32 := Scf.iv c0_i32_8 c1_i32_9 k0_t2
  let c2_i32_11 : BitVec 32 := 2#32
  let v17 : BitVec 32 := Scalar.muli arg9 c2_i32_11
  let c0_i32_12 : BitVec 32 := 0#32
  let v18 : BitVec 32 := Scalar.addi v17 c0_i32_12
  let c1_i32_26 : BitVec 32 := 1#32
  let v48 : BitVec 32 := Scalar.addi v18 c1_i32_26
  let c50_i32_27 : BitVec 32 := 50#32
  let v49 : BitVec 1 := Scalar.cmpi .slt v48 c50_i32_27
  let v50 : BitVec 32 := Scalar.extui v49
  let c0_i32_28 : BitVec 32 := 0#32
  let v51 : BitVec 1 := Scalar.cmpi .ne v50 c0_i32_28
  v51

def k0_off10 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32_108 : BitVec 32 := 50#32
  let v204 : BitVec 32 := Scalar.muli v1 c50_i32_108
  let c0_i32_8 : BitVec 32 := 0#32
  let c1_i32_9 : BitVec 32 := 1#32
  let arg9 : BitVec 32 := Scf.iv c0_i32_8 c1_i32_9 k0_t2
  let c2_i32_11 : BitVec 32 := 2#32
  let v17 : BitVec 32 := Scalar.muli arg9 c2_i32_11
  let c0_i32_12 : BitVec 32 := 0#32
  let v18 : BitVec 32 := Scalar.addi v17 c0_i32_12
  let c1_i32_107 : BitVec 32 := 1#32
  let v203 : BitVec 32 := Scalar.addi v18 c1_i32_107
  let v205 : BitVec 32 := Scalar.addi v204 v203
  let c128_i32_109 : BitVec 32 := 128#32
  let v206 : BitVec 32 := Scalar.muli v205 c128_i32_109
  ![v206.toNat]

def k0_chk1 (v53 : IVec S16 32) (v54 : IVec S16 32) : Prop :=
  (∀ a x, ((![v54, v53] : Fin 2 → IVec S16 32) a x).toNat < S1000x128.size a)
theorem k0_idx1_inb : ∀ (v53 : IVec S16 32) (v54 : IVec S16 32) (k0_hw1 : k0_chk1 v53 v54), ∀ a x, ((![v54, v53] : Fin 2 → IVec S16 32) a x).toNat < S1000x128.size a := fun v53 v54 k0_hw1 => k0_hw1

def k0_chk2 (v56 : IVec S16 32) (v57 : IVec S16 32) : Prop :=
  (∀ a x, ((![v57, v56] : Fin 2 → IVec S16 32) a x).toNat < S1000x128.size a)
theorem k0_idx2_inb : ∀ (v56 : IVec S16 32) (v57 : IVec S16 32) (k0_hw2 : k0_chk2 v56 v57), ∀ a x, ((![v57, v56] : Fin 2 → IVec S16 32) a x).toNat < S1000x128.size a := fun v56 v57 k0_hw2 => k0_hw2

def k0_chk3 (v59 : IVec S16 32) (v60 : IVec S16 32) : Prop :=
  (∀ a x, ((![v60, v59] : Fin 2 → IVec S16 32) a x).toNat < S1000x128.size a)
theorem k0_idx3_inb : ∀ (v59 : IVec S16 32) (v60 : IVec S16 32) (k0_hw3 : k0_chk3 v59 v60), ∀ a x, ((![v60, v59] : Fin 2 → IVec S16 32) a x).toNat < S1000x128.size a := fun v59 v60 k0_hw3 => k0_hw3

def k0_chk4 (v62 : IVec S16 32) (v63 : IVec S16 32) : Prop :=
  (∀ a x, ((![v63, v62] : Fin 2 → IVec S16 32) a x).toNat < S1000x128.size a)
theorem k0_idx4_inb : ∀ (v62 : IVec S16 32) (v63 : IVec S16 32) (k0_hw4 : k0_chk4 v62 v63), ∀ a x, ((![v63, v62] : Fin 2 → IVec S16 32) a x).toNat < S1000x128.size a := fun v62 v63 k0_hw4 => k0_hw4

def k0_chk5 (v65 : IVec S16 32) (v66 : IVec S16 32) : Prop :=
  (∀ a x, ((![v66, v65] : Fin 2 → IVec S16 32) a x).toNat < S1000x128.size a)
theorem k0_idx5_inb : ∀ (v65 : IVec S16 32) (v66 : IVec S16 32) (k0_hw5 : k0_chk5 v65 v66), ∀ a x, ((![v66, v65] : Fin 2 → IVec S16 32) a x).toNat < S1000x128.size a := fun v65 v66 k0_hw5 => k0_hw5

def k0_chk6 (v68 : IVec S16 32) (v69 : IVec S16 32) : Prop :=
  (∀ a x, ((![v69, v68] : Fin 2 → IVec S16 32) a x).toNat < S1000x128.size a)
theorem k0_idx6_inb : ∀ (v68 : IVec S16 32) (v69 : IVec S16 32) (k0_hw6 : k0_chk6 v68 v69), ∀ a x, ((![v69, v68] : Fin 2 → IVec S16 32) a x).toNat < S1000x128.size a := fun v68 v69 k0_hw6 => k0_hw6

def k0_chk7 (v71 : IVec S16 32) (v72 : IVec S16 32) : Prop :=
  (∀ a x, ((![v72, v71] : Fin 2 → IVec S16 32) a x).toNat < S1000x128.size a)
theorem k0_idx7_inb : ∀ (v71 : IVec S16 32) (v72 : IVec S16 32) (k0_hw7 : k0_chk7 v71 v72), ∀ a x, ((![v72, v71] : Fin 2 → IVec S16 32) a x).toNat < S1000x128.size a := fun v71 v72 k0_hw7 => k0_hw7

def k0_chk8 (v74 : IVec S16 32) (v75 : IVec S16 32) : Prop :=
  (∀ a x, ((![v75, v74] : Fin 2 → IVec S16 32) a x).toNat < S1000x128.size a)
theorem k0_idx8_inb : ∀ (v74 : IVec S16 32) (v75 : IVec S16 32) (k0_hw8 : k0_chk8 v74 v75), ∀ a x, ((![v75, v74] : Fin 2 → IVec S16 32) a x).toNat < S1000x128.size a := fun v74 v75 k0_hw8 => k0_hw8
def k0_off11 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32_13 : BitVec 32 := 50#32
  let v19 : BitVec 32 := Scalar.muli v1 c50_i32_13
  let c0_i32_8 : BitVec 32 := 0#32
  let c1_i32_9 : BitVec 32 := 1#32
  let arg9 : BitVec 32 := Scf.iv c0_i32_8 c1_i32_9 k0_t2
  let c2_i32_11 : BitVec 32 := 2#32
  let v17 : BitVec 32 := Scalar.muli arg9 c2_i32_11
  let c0_i32_12 : BitVec 32 := 0#32
  let v18 : BitVec 32 := Scalar.addi v17 c0_i32_12
  let v20 : BitVec 32 := Scalar.addi v19 v18
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c8_i32 : BitVec 32 := 8#32
  let c0_i32_16 : BitVec 32 := 0#32
  let v27 : BitVec 1 := Scalar.cmpi .sgt c8_i32 c0_i32_16
  let v28 : BitVec 32 := Scalar.extui v27
  let c0_i32_17 : BitVec 32 := 0#32
  let v29 : BitVec 1 := Scalar.cmpi .slt c8_i32 c0_i32_17
  let v30 : BitVec 32 := Scalar.extui v29
  let v31 : BitVec 32 := Scalar.subi v28 v30
  let v32 : BitVec 1 := Scalar.cmpi .ne v26 v31
  let v33 : BitVec 32 := Scalar.remsi v20 c8_i32
  let c0_i32_18 : BitVec 32 := 0#32
  let v34 : BitVec 1 := Scalar.cmpi .ne v33 c0_i32_18
  let v35 : BitVec 1 := Scalar.andi v32 v34
  let v21 : BitVec 32 := Scalar.divsi v20 c8_i32
  let c1_i32_19 : BitVec 32 := 1#32
  let v36 : BitVec 32 := Scalar.subi v21 c1_i32_19
  let v37 : BitVec 32 := Scalar.select v35 v36 v21
  let c1000_i32_30 : BitVec 32 := 1000#32
  let v76 : BitVec 32 := Scalar.muli v37 c1000_i32_30
  let c8_i32_20 : BitVec 32 := 8#32
  let c0_i32_21 : BitVec 32 := 0#32
  let v38 : BitVec 1 := Scalar.cmpi .eq c8_i32_20 c0_i32_21
  let c1_i32_22 : BitVec 32 := 1#32
  let v39 : BitVec 32 := Scalar.select v38 c1_i32_22 c8_i32_20
  let v40 : BitVec 32 := Scalar.remsi v20 v39
  let c0_i32_24 : BitVec 32 := 0#32
  let v42 : BitVec 1 := Scalar.cmpi .slt v40 c0_i32_24
  let c0_i32_25 : BitVec 32 := 0#32
  let v43 : BitVec 1 := Scalar.cmpi .slt v39 c0_i32_25
  let v44 : BitVec 1 := Scalar.xori v42 v43
  let c0_i32_23 : BitVec 32 := 0#32
  let v41 : BitVec 1 := Scalar.cmpi .ne v40 c0_i32_23
  let v45 : BitVec 1 := Scalar.andi v44 v41
  let v46 : BitVec 32 := Scalar.addi v40 v39
  let v47 : BitVec 32 := Scalar.select v45 v46 v40
  let c128_i32_31 : BitVec 32 := 128#32
  let v77 : BitVec 32 := Scalar.muli v47 c128_i32_31
  ![v76.toNat, v77.toNat]

def k0_chk9 (v83 : IVec S16 32) (v84 : IVec S16 32) : Prop :=
  (∀ a x, ((![v84, v83] : Fin 2 → IVec S16 32) a x).toNat < S1000x128.size a)
theorem k0_idx9_inb : ∀ (v83 : IVec S16 32) (v84 : IVec S16 32) (k0_hw9 : k0_chk9 v83 v84), ∀ a x, ((![v84, v83] : Fin 2 → IVec S16 32) a x).toNat < S1000x128.size a := fun v83 v84 k0_hw9 => k0_hw9

def k0_chk10 (v86 : IVec S16 32) (v87 : IVec S16 32) : Prop :=
  (∀ a x, ((![v87, v86] : Fin 2 → IVec S16 32) a x).toNat < S1000x128.size a)
theorem k0_idx10_inb : ∀ (v86 : IVec S16 32) (v87 : IVec S16 32) (k0_hw10 : k0_chk10 v86 v87), ∀ a x, ((![v87, v86] : Fin 2 → IVec S16 32) a x).toNat < S1000x128.size a := fun v86 v87 k0_hw10 => k0_hw10

def k0_chk11 (v89 : IVec S16 32) (v90 : IVec S16 32) : Prop :=
  (∀ a x, ((![v90, v89] : Fin 2 → IVec S16 32) a x).toNat < S1000x128.size a)
theorem k0_idx11_inb : ∀ (v89 : IVec S16 32) (v90 : IVec S16 32) (k0_hw11 : k0_chk11 v89 v90), ∀ a x, ((![v90, v89] : Fin 2 → IVec S16 32) a x).toNat < S1000x128.size a := fun v89 v90 k0_hw11 => k0_hw11

def k0_chk12 (v92 : IVec S16 32) (v93 : IVec S16 32) : Prop :=
  (∀ a x, ((![v93, v92] : Fin 2 → IVec S16 32) a x).toNat < S1000x128.size a)
theorem k0_idx12_inb : ∀ (v92 : IVec S16 32) (v93 : IVec S16 32) (k0_hw12 : k0_chk12 v92 v93), ∀ a x, ((![v93, v92] : Fin 2 → IVec S16 32) a x).toNat < S1000x128.size a := fun v92 v93 k0_hw12 => k0_hw12

def k0_chk13 (v95 : IVec S16 32) (v96 : IVec S16 32) : Prop :=
  (∀ a x, ((![v96, v95] : Fin 2 → IVec S16 32) a x).toNat < S1000x128.size a)
theorem k0_idx13_inb : ∀ (v95 : IVec S16 32) (v96 : IVec S16 32) (k0_hw13 : k0_chk13 v95 v96), ∀ a x, ((![v96, v95] : Fin 2 → IVec S16 32) a x).toNat < S1000x128.size a := fun v95 v96 k0_hw13 => k0_hw13

def k0_chk14 (v98 : IVec S16 32) (v99 : IVec S16 32) : Prop :=
  (∀ a x, ((![v99, v98] : Fin 2 → IVec S16 32) a x).toNat < S1000x128.size a)
theorem k0_idx14_inb : ∀ (v98 : IVec S16 32) (v99 : IVec S16 32) (k0_hw14 : k0_chk14 v98 v99), ∀ a x, ((![v99, v98] : Fin 2 → IVec S16 32) a x).toNat < S1000x128.size a := fun v98 v99 k0_hw14 => k0_hw14

def k0_chk15 (v101 : IVec S16 32) (v102 : IVec S16 32) : Prop :=
  (∀ a x, ((![v102, v101] : Fin 2 → IVec S16 32) a x).toNat < S1000x128.size a)
theorem k0_idx15_inb : ∀ (v101 : IVec S16 32) (v102 : IVec S16 32) (k0_hw15 : k0_chk15 v101 v102), ∀ a x, ((![v102, v101] : Fin 2 → IVec S16 32) a x).toNat < S1000x128.size a := fun v101 v102 k0_hw15 => k0_hw15

def k0_chk16 (v104 : IVec S16 32) (v105 : IVec S16 32) : Prop :=
  (∀ a x, ((![v105, v104] : Fin 2 → IVec S16 32) a x).toNat < S1000x128.size a)
theorem k0_idx16_inb : ∀ (v104 : IVec S16 32) (v105 : IVec S16 32) (k0_hw16 : k0_chk16 v104 v105), ∀ a x, ((![v105, v104] : Fin 2 → IVec S16 32) a x).toNat < S1000x128.size a := fun v104 v105 k0_hw16 => k0_hw16
def k0_cond2 (k0_t2 : Fin k0_t2_loop.trips) : BitVec 1 :=
  let c0_i32_8 : BitVec 32 := 0#32
  let c1_i32_9 : BitVec 32 := 1#32
  let arg9 : BitVec 32 := Scf.iv c0_i32_8 c1_i32_9 k0_t2
  let c2_i32_11 : BitVec 32 := 2#32
  let v17 : BitVec 32 := Scalar.muli arg9 c2_i32_11
  let c0_i32_12 : BitVec 32 := 0#32
  let v18 : BitVec 32 := Scalar.addi v17 c0_i32_12
  let c1_i32_48 : BitVec 32 := 1#32
  let v106 : BitVec 32 := Scalar.addi v18 c1_i32_48
  let c50_i32_49 : BitVec 32 := 50#32
  let v107 : BitVec 1 := Scalar.cmpi .slt v106 c50_i32_49
  let v108 : BitVec 32 := Scalar.extui v107
  let c0_i32_50 : BitVec 32 := 0#32
  let v109 : BitVec 1 := Scalar.cmpi .ne v108 c0_i32_50
  v109

def k0_off12 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32_108 : BitVec 32 := 50#32
  let v204 : BitVec 32 := Scalar.muli v1 c50_i32_108
  let c0_i32_8 : BitVec 32 := 0#32
  let c1_i32_9 : BitVec 32 := 1#32
  let arg9 : BitVec 32 := Scf.iv c0_i32_8 c1_i32_9 k0_t2
  let c2_i32_11 : BitVec 32 := 2#32
  let v17 : BitVec 32 := Scalar.muli arg9 c2_i32_11
  let c0_i32_12 : BitVec 32 := 0#32
  let v18 : BitVec 32 := Scalar.addi v17 c0_i32_12
  let c1_i32_107 : BitVec 32 := 1#32
  let v203 : BitVec 32 := Scalar.addi v18 c1_i32_107
  let v205 : BitVec 32 := Scalar.addi v204 v203
  let c128_i32_109 : BitVec 32 := 128#32
  let v206 : BitVec 32 := Scalar.muli v205 c128_i32_109
  ![v206.toNat]
def k0_cond3 (k0_t2 : Fin k0_t2_loop.trips) : BitVec 1 :=
  let c0_i32_8 : BitVec 32 := 0#32
  let c1_i32_9 : BitVec 32 := 1#32
  let arg9 : BitVec 32 := Scf.iv c0_i32_8 c1_i32_9 k0_t2
  let c2_i32_51 : BitVec 32 := 2#32
  let v110 : BitVec 32 := Scalar.muli arg9 c2_i32_51
  let c1_i32_52 : BitVec 32 := 1#32
  let v111 : BitVec 32 := Scalar.addi v110 c1_i32_52
  let c1_i32_67 : BitVec 32 := 1#32
  let v141 : BitVec 32 := Scalar.addi v111 c1_i32_67
  let c50_i32_68 : BitVec 32 := 50#32
  let v142 : BitVec 1 := Scalar.cmpi .slt v141 c50_i32_68
  let v143 : BitVec 32 := Scalar.extui v142
  let c0_i32_69 : BitVec 32 := 0#32
  let v144 : BitVec 1 := Scalar.cmpi .ne v143 c0_i32_69
  v144

def k0_off13 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32_108 : BitVec 32 := 50#32
  let v204 : BitVec 32 := Scalar.muli v1 c50_i32_108
  let c0_i32_8 : BitVec 32 := 0#32
  let c1_i32_9 : BitVec 32 := 1#32
  let arg9 : BitVec 32 := Scf.iv c0_i32_8 c1_i32_9 k0_t2
  let c2_i32_51 : BitVec 32 := 2#32
  let v110 : BitVec 32 := Scalar.muli arg9 c2_i32_51
  let c1_i32_52 : BitVec 32 := 1#32
  let v111 : BitVec 32 := Scalar.addi v110 c1_i32_52
  let c1_i32_107 : BitVec 32 := 1#32
  let v203 : BitVec 32 := Scalar.addi v111 c1_i32_107
  let v205 : BitVec 32 := Scalar.addi v204 v203
  let c128_i32_109 : BitVec 32 := 128#32
  let v206 : BitVec 32 := Scalar.muli v205 c128_i32_109
  ![v206.toNat]

def k0_chk17 (v146 : IVec S16 32) (v147 : IVec S16 32) : Prop :=
  (∀ a x, ((![v147, v146] : Fin 2 → IVec S16 32) a x).toNat < S1000x128.size a)
theorem k0_idx17_inb : ∀ (v146 : IVec S16 32) (v147 : IVec S16 32) (k0_hw17 : k0_chk17 v146 v147), ∀ a x, ((![v147, v146] : Fin 2 → IVec S16 32) a x).toNat < S1000x128.size a := fun v146 v147 k0_hw17 => k0_hw17

def k0_chk18 (v149 : IVec S16 32) (v150 : IVec S16 32) : Prop :=
  (∀ a x, ((![v150, v149] : Fin 2 → IVec S16 32) a x).toNat < S1000x128.size a)
theorem k0_idx18_inb : ∀ (v149 : IVec S16 32) (v150 : IVec S16 32) (k0_hw18 : k0_chk18 v149 v150), ∀ a x, ((![v150, v149] : Fin 2 → IVec S16 32) a x).toNat < S1000x128.size a := fun v149 v150 k0_hw18 => k0_hw18

def k0_chk19 (v152 : IVec S16 32) (v153 : IVec S16 32) : Prop :=
  (∀ a x, ((![v153, v152] : Fin 2 → IVec S16 32) a x).toNat < S1000x128.size a)
theorem k0_idx19_inb : ∀ (v152 : IVec S16 32) (v153 : IVec S16 32) (k0_hw19 : k0_chk19 v152 v153), ∀ a x, ((![v153, v152] : Fin 2 → IVec S16 32) a x).toNat < S1000x128.size a := fun v152 v153 k0_hw19 => k0_hw19

def k0_chk20 (v155 : IVec S16 32) (v156 : IVec S16 32) : Prop :=
  (∀ a x, ((![v156, v155] : Fin 2 → IVec S16 32) a x).toNat < S1000x128.size a)
theorem k0_idx20_inb : ∀ (v155 : IVec S16 32) (v156 : IVec S16 32) (k0_hw20 : k0_chk20 v155 v156), ∀ a x, ((![v156, v155] : Fin 2 → IVec S16 32) a x).toNat < S1000x128.size a := fun v155 v156 k0_hw20 => k0_hw20

def k0_chk21 (v158 : IVec S16 32) (v159 : IVec S16 32) : Prop :=
  (∀ a x, ((![v159, v158] : Fin 2 → IVec S16 32) a x).toNat < S1000x128.size a)
theorem k0_idx21_inb : ∀ (v158 : IVec S16 32) (v159 : IVec S16 32) (k0_hw21 : k0_chk21 v158 v159), ∀ a x, ((![v159, v158] : Fin 2 → IVec S16 32) a x).toNat < S1000x128.size a := fun v158 v159 k0_hw21 => k0_hw21

def k0_chk22 (v161 : IVec S16 32) (v162 : IVec S16 32) : Prop :=
  (∀ a x, ((![v162, v161] : Fin 2 → IVec S16 32) a x).toNat < S1000x128.size a)
theorem k0_idx22_inb : ∀ (v161 : IVec S16 32) (v162 : IVec S16 32) (k0_hw22 : k0_chk22 v161 v162), ∀ a x, ((![v162, v161] : Fin 2 → IVec S16 32) a x).toNat < S1000x128.size a := fun v161 v162 k0_hw22 => k0_hw22

def k0_chk23 (v164 : IVec S16 32) (v165 : IVec S16 32) : Prop :=
  (∀ a x, ((![v165, v164] : Fin 2 → IVec S16 32) a x).toNat < S1000x128.size a)
theorem k0_idx23_inb : ∀ (v164 : IVec S16 32) (v165 : IVec S16 32) (k0_hw23 : k0_chk23 v164 v165), ∀ a x, ((![v165, v164] : Fin 2 → IVec S16 32) a x).toNat < S1000x128.size a := fun v164 v165 k0_hw23 => k0_hw23

def k0_chk24 (v167 : IVec S16 32) (v168 : IVec S16 32) : Prop :=
  (∀ a x, ((![v168, v167] : Fin 2 → IVec S16 32) a x).toNat < S1000x128.size a)
theorem k0_idx24_inb : ∀ (v167 : IVec S16 32) (v168 : IVec S16 32) (k0_hw24 : k0_chk24 v167 v168), ∀ a x, ((![v168, v167] : Fin 2 → IVec S16 32) a x).toNat < S1000x128.size a := fun v167 v168 k0_hw24 => k0_hw24
def k0_off14 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32_53 : BitVec 32 := 50#32
  let v112 : BitVec 32 := Scalar.muli v1 c50_i32_53
  let c0_i32_8 : BitVec 32 := 0#32
  let c1_i32_9 : BitVec 32 := 1#32
  let arg9 : BitVec 32 := Scf.iv c0_i32_8 c1_i32_9 k0_t2
  let c2_i32_51 : BitVec 32 := 2#32
  let v110 : BitVec 32 := Scalar.muli arg9 c2_i32_51
  let c1_i32_52 : BitVec 32 := 1#32
  let v111 : BitVec 32 := Scalar.addi v110 c1_i32_52
  let v113 : BitVec 32 := Scalar.addi v112 v111
  let c0_i32_55 : BitVec 32 := 0#32
  let v115 : BitVec 1 := Scalar.cmpi .sgt v113 c0_i32_55
  let v116 : BitVec 32 := Scalar.extui v115
  let c0_i32_56 : BitVec 32 := 0#32
  let v117 : BitVec 1 := Scalar.cmpi .slt v113 c0_i32_56
  let v118 : BitVec 32 := Scalar.extui v117
  let v119 : BitVec 32 := Scalar.subi v116 v118
  let c8_i32_54 : BitVec 32 := 8#32
  let c0_i32_57 : BitVec 32 := 0#32
  let v120 : BitVec 1 := Scalar.cmpi .sgt c8_i32_54 c0_i32_57
  let v121 : BitVec 32 := Scalar.extui v120
  let c0_i32_58 : BitVec 32 := 0#32
  let v122 : BitVec 1 := Scalar.cmpi .slt c8_i32_54 c0_i32_58
  let v123 : BitVec 32 := Scalar.extui v122
  let v124 : BitVec 32 := Scalar.subi v121 v123
  let v125 : BitVec 1 := Scalar.cmpi .ne v119 v124
  let v126 : BitVec 32 := Scalar.remsi v113 c8_i32_54
  let c0_i32_59 : BitVec 32 := 0#32
  let v127 : BitVec 1 := Scalar.cmpi .ne v126 c0_i32_59
  let v128 : BitVec 1 := Scalar.andi v125 v127
  let v114 : BitVec 32 := Scalar.divsi v113 c8_i32_54
  let c1_i32_60 : BitVec 32 := 1#32
  let v129 : BitVec 32 := Scalar.subi v114 c1_i32_60
  let v130 : BitVec 32 := Scalar.select v128 v129 v114
  let c1000_i32_86 : BitVec 32 := 1000#32
  let v169 : BitVec 32 := Scalar.muli v130 c1000_i32_86
  let c8_i32_61 : BitVec 32 := 8#32
  let c0_i32_62 : BitVec 32 := 0#32
  let v131 : BitVec 1 := Scalar.cmpi .eq c8_i32_61 c0_i32_62
  let c1_i32_63 : BitVec 32 := 1#32
  let v132 : BitVec 32 := Scalar.select v131 c1_i32_63 c8_i32_61
  let v133 : BitVec 32 := Scalar.remsi v113 v132
  let c0_i32_65 : BitVec 32 := 0#32
  let v135 : BitVec 1 := Scalar.cmpi .slt v133 c0_i32_65
  let c0_i32_66 : BitVec 32 := 0#32
  let v136 : BitVec 1 := Scalar.cmpi .slt v132 c0_i32_66
  let v137 : BitVec 1 := Scalar.xori v135 v136
  let c0_i32_64 : BitVec 32 := 0#32
  let v134 : BitVec 1 := Scalar.cmpi .ne v133 c0_i32_64
  let v138 : BitVec 1 := Scalar.andi v137 v134
  let v139 : BitVec 32 := Scalar.addi v133 v132
  let v140 : BitVec 32 := Scalar.select v138 v139 v133
  let c128_i32_87 : BitVec 32 := 128#32
  let v170 : BitVec 32 := Scalar.muli v140 c128_i32_87
  ![v169.toNat, v170.toNat]

def k0_chk25 (v176 : IVec S16 32) (v177 : IVec S16 32) : Prop :=
  (∀ a x, ((![v177, v176] : Fin 2 → IVec S16 32) a x).toNat < S1000x128.size a)
theorem k0_idx25_inb : ∀ (v176 : IVec S16 32) (v177 : IVec S16 32) (k0_hw25 : k0_chk25 v176 v177), ∀ a x, ((![v177, v176] : Fin 2 → IVec S16 32) a x).toNat < S1000x128.size a := fun v176 v177 k0_hw25 => k0_hw25

def k0_chk26 (v179 : IVec S16 32) (v180 : IVec S16 32) : Prop :=
  (∀ a x, ((![v180, v179] : Fin 2 → IVec S16 32) a x).toNat < S1000x128.size a)
theorem k0_idx26_inb : ∀ (v179 : IVec S16 32) (v180 : IVec S16 32) (k0_hw26 : k0_chk26 v179 v180), ∀ a x, ((![v180, v179] : Fin 2 → IVec S16 32) a x).toNat < S1000x128.size a := fun v179 v180 k0_hw26 => k0_hw26

def k0_chk27 (v182 : IVec S16 32) (v183 : IVec S16 32) : Prop :=
  (∀ a x, ((![v183, v182] : Fin 2 → IVec S16 32) a x).toNat < S1000x128.size a)
theorem k0_idx27_inb : ∀ (v182 : IVec S16 32) (v183 : IVec S16 32) (k0_hw27 : k0_chk27 v182 v183), ∀ a x, ((![v183, v182] : Fin 2 → IVec S16 32) a x).toNat < S1000x128.size a := fun v182 v183 k0_hw27 => k0_hw27

def k0_chk28 (v185 : IVec S16 32) (v186 : IVec S16 32) : Prop :=
  (∀ a x, ((![v186, v185] : Fin 2 → IVec S16 32) a x).toNat < S1000x128.size a)
theorem k0_idx28_inb : ∀ (v185 : IVec S16 32) (v186 : IVec S16 32) (k0_hw28 : k0_chk28 v185 v186), ∀ a x, ((![v186, v185] : Fin 2 → IVec S16 32) a x).toNat < S1000x128.size a := fun v185 v186 k0_hw28 => k0_hw28

def k0_chk29 (v188 : IVec S16 32) (v189 : IVec S16 32) : Prop :=
  (∀ a x, ((![v189, v188] : Fin 2 → IVec S16 32) a x).toNat < S1000x128.size a)
theorem k0_idx29_inb : ∀ (v188 : IVec S16 32) (v189 : IVec S16 32) (k0_hw29 : k0_chk29 v188 v189), ∀ a x, ((![v189, v188] : Fin 2 → IVec S16 32) a x).toNat < S1000x128.size a := fun v188 v189 k0_hw29 => k0_hw29

def k0_chk30 (v191 : IVec S16 32) (v192 : IVec S16 32) : Prop :=
  (∀ a x, ((![v192, v191] : Fin 2 → IVec S16 32) a x).toNat < S1000x128.size a)
theorem k0_idx30_inb : ∀ (v191 : IVec S16 32) (v192 : IVec S16 32) (k0_hw30 : k0_chk30 v191 v192), ∀ a x, ((![v192, v191] : Fin 2 → IVec S16 32) a x).toNat < S1000x128.size a := fun v191 v192 k0_hw30 => k0_hw30

def k0_chk31 (v194 : IVec S16 32) (v195 : IVec S16 32) : Prop :=
  (∀ a x, ((![v195, v194] : Fin 2 → IVec S16 32) a x).toNat < S1000x128.size a)
theorem k0_idx31_inb : ∀ (v194 : IVec S16 32) (v195 : IVec S16 32) (k0_hw31 : k0_chk31 v194 v195), ∀ a x, ((![v195, v194] : Fin 2 → IVec S16 32) a x).toNat < S1000x128.size a := fun v194 v195 k0_hw31 => k0_hw31

def k0_chk32 (v197 : IVec S16 32) (v198 : IVec S16 32) : Prop :=
  (∀ a x, ((![v198, v197] : Fin 2 → IVec S16 32) a x).toNat < S1000x128.size a)
theorem k0_idx32_inb : ∀ (v197 : IVec S16 32) (v198 : IVec S16 32) (k0_hw32 : k0_chk32 v197 v198), ∀ a x, ((![v198, v197] : Fin 2 → IVec S16 32) a x).toNat < S1000x128.size a := fun v197 v198 k0_hw32 => k0_hw32
def k0_cond4 (k0_t2 : Fin k0_t2_loop.trips) : BitVec 1 :=
  let c0_i32_8 : BitVec 32 := 0#32
  let c1_i32_9 : BitVec 32 := 1#32
  let arg9 : BitVec 32 := Scf.iv c0_i32_8 c1_i32_9 k0_t2
  let c2_i32_51 : BitVec 32 := 2#32
  let v110 : BitVec 32 := Scalar.muli arg9 c2_i32_51
  let c1_i32_52 : BitVec 32 := 1#32
  let v111 : BitVec 32 := Scalar.addi v110 c1_i32_52
  let c1_i32_104 : BitVec 32 := 1#32
  let v199 : BitVec 32 := Scalar.addi v111 c1_i32_104
  let c50_i32_105 : BitVec 32 := 50#32
  let v200 : BitVec 1 := Scalar.cmpi .slt v199 c50_i32_105
  let v201 : BitVec 32 := Scalar.extui v200
  let c0_i32_106 : BitVec 32 := 0#32
  let v202 : BitVec 1 := Scalar.cmpi .ne v201 c0_i32_106
  v202

def k0_off15 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32_108 : BitVec 32 := 50#32
  let v204 : BitVec 32 := Scalar.muli v1 c50_i32_108
  let c0_i32_8 : BitVec 32 := 0#32
  let c1_i32_9 : BitVec 32 := 1#32
  let arg9 : BitVec 32 := Scf.iv c0_i32_8 c1_i32_9 k0_t2
  let c2_i32_51 : BitVec 32 := 2#32
  let v110 : BitVec 32 := Scalar.muli arg9 c2_i32_51
  let c1_i32_52 : BitVec 32 := 1#32
  let v111 : BitVec 32 := Scalar.addi v110 c1_i32_52
  let c1_i32_107 : BitVec 32 := 1#32
  let v203 : BitVec 32 := Scalar.addi v111 c1_i32_107
  let v205 : BitVec 32 := Scalar.addi v204 v203
  let c128_i32_109 : BitVec 32 := 128#32
  let v206 : BitVec 32 := Scalar.muli v205 c128_i32_109
  ![v206.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S_ : Shape := ⟨0, ![]⟩
abbrev S1024x200x1000 : Shape := ⟨3, ![1024, 200, 1000]⟩
abbrev S1024 : Shape := ⟨1, ![1024]⟩
abbrev S1024x1 : Shape := ⟨2, ![1024, 1]⟩
abbrev S200 : Shape := ⟨1, ![200]⟩
abbrev S1x200 : Shape := ⟨2, ![1, 200]⟩
abbrev S1024x200x1 : Shape := ⟨3, ![1024, 200, 1]⟩
abbrev S1024x200x3 : Shape := ⟨3, ![1024, 200, 3]⟩

abbrev nBuf : Space → Nat
  | .hbm => 37
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S_, .f32⟩
  | .hbm, ⟨2, _⟩ => ⟨S1024x200x1000, .f32⟩
  | .hbm, ⟨3, _⟩ => ⟨S1024, .i32⟩
  | .hbm, ⟨4, _⟩ => ⟨S1024x1, .i32⟩
  | .hbm, ⟨5, _⟩ => ⟨S200, .i32⟩
  | .hbm, ⟨6, _⟩ => ⟨S1x200, .i32⟩
  | .hbm, ⟨7, _⟩ => ⟨S_, .i32⟩
  | .hbm, ⟨8, _⟩ => ⟨S1024x1, .i32⟩
  | .hbm, ⟨9, _⟩ => ⟨S1024x1, .i1⟩
  | .hbm, ⟨10, _⟩ => ⟨S_, .i32⟩
  | .hbm, ⟨11, _⟩ => ⟨S1024x1, .i32⟩
  | .hbm, ⟨12, _⟩ => ⟨S1024x1, .i32⟩
  | .hbm, ⟨13, _⟩ => ⟨S1024x1, .i32⟩
  | .hbm, ⟨14, _⟩ => ⟨S_, .i32⟩
  | .hbm, ⟨15, _⟩ => ⟨S1x200, .i32⟩
  | .hbm, ⟨16, _⟩ => ⟨S1x200, .i1⟩
  | .hbm, ⟨17, _⟩ => ⟨S_, .i32⟩
  | .hbm, ⟨18, _⟩ => ⟨S1x200, .i32⟩
  | .hbm, ⟨19, _⟩ => ⟨S1x200, .i32⟩
  | .hbm, ⟨20, _⟩ => ⟨S1x200, .i32⟩
  | .hbm, ⟨21, _⟩ => ⟨S_, .i32⟩
  | .hbm, ⟨22, _⟩ => ⟨S1024x200, .i32⟩
  | .hbm, ⟨23, _⟩ => ⟨S1024x200, .i1⟩
  | .hbm, ⟨24, _⟩ => ⟨S_, .i32⟩
  | .hbm, ⟨25, _⟩ => ⟨S1024x200, .i32⟩
  | .hbm, ⟨26, _⟩ => ⟨S1024x200, .i32⟩
  | .hbm, ⟨27, _⟩ => ⟨S1024x200, .i32⟩
  | .hbm, ⟨28, _⟩ => ⟨S1024x200, .i32⟩
  | .hbm, ⟨29, _⟩ => ⟨S1024x200, .i32⟩
  | .hbm, ⟨30, _⟩ => ⟨S1024x200x1, .i32⟩
  | .hbm, ⟨31, _⟩ => ⟨S1024x200x1, .i32⟩
  | .hbm, ⟨32, _⟩ => ⟨S1024x200x1, .i32⟩
  | .hbm, ⟨33, _⟩ => ⟨S1024x200x3, .i32⟩
  | .hbm, ⟨34, _⟩ => ⟨S_, .f32⟩
  | .hbm, ⟨35, _⟩ => ⟨S1024x200, .f32⟩
  | .hbm, ⟨36, _⟩ => ⟨S1024x200x1000, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.PreClasses.lean ====
/-
  What the precondition says: every class in the array is a number below 1000.
-/
module

public import proofs.«01_k».proof.Defs
public import Idealize.ShloMosaic.Lib.ReduceAll
public import proofs.«01_k».proof.Proof.Gen.Pre_classes

@[expose] public section

noncomputable section

namespace Cert.Proof.PreClasses

open Cert.Pre_classes Cert.Pre_classes.Gen
open Idealize.ShloMosaic

variable {F : FTy → Type} [FloatOps F]

/-- A word that is at least 0 and below 1000, read with its sign, is a number below 1000. -/
theorem word_lt (v : BitVec 32) (h : IntOp.andi (IntOp.cmpi .sge v 0#32) (IntOp.cmpi .slt v 1000#32) = 1#1) : v.toNat < 1000 := by
  have conj (p q : Bool) : IntOp.andi (BitVec.ofBool p) (BitVec.ofBool q) = BitVec.ofBool (p && q) := by
    cases p <;> cases q <;> decide
  have holds (p : Bool) : (BitVec.ofBool p = 1#1) ↔ p = true := by cases p <;> decide
  simp only [IntOp.cmpi, conj, holds, Bool.and_eq_true, BitVec.sle_eq_decide, BitVec.slt_eq_decide,
    decide_eq_true_eq, BitVec.toInt_eq_toNat_cond, BitVec.toNat_ofNat, Nat.reducePow, Nat.reduceMod] at h
  omega

/-- The precondition bounds every class. -/
theorem classes_bounded (x : S1024x200.Idx → BitVec 32) (h : Cert.Pre_classes.fn (F := F) x = fun _ => 1#1) (k : S1024x200.Idx) :
    (x k).toNat < 1000 := by
  have : Subsingleton S_.Idx := ⟨fun _ _ => funext fun a => a.elim0⟩
  have e := congrFun h (fun a => a.elim0)
  unfold Cert.Pre_classes.fn at e
  exact word_lt _ (Host.reduce_andi_all _ _ _ _ _ e k)

end Cert.Proof.PreClasses

end
-- ==== Proof.OneHot.lean ====
/-
  The mathematics of a one-hot block: what a 1000 x 128 block holds once some of its columns carry
  a one in the row their class names, and how one sixteen-lane scatter moves from one such block to
  the next. Nothing here mentions the program.
-/
module

public import Idealize.ShloMosaic.Lib.SparseCore.Ops

@[expose] public section

noncomputable section

namespace Cert.Proof.OneHot

open Idealize.ShloMosaic

/-- The shape of a vector of sixteen lanes. -/
abbrev Lanes : Shape := ⟨1, ![16]⟩
/-- The shape of the list of classes of one block, a class per column. -/
abbrev Cols : Shape := ⟨1, ![128]⟩
/-- The shape of a block: a row per class, a column per position. -/
abbrev Block : Shape := ⟨2, ![1000, 128]⟩

/-- The index of column `n` in the list of classes. -/
def colIx (n : Nat) (h : n < 128) : Cols.Idx := fun a => ⟨n, by
  rw [Subsingleton.elim a 0]; exact h⟩

theorem Block.col_lt (p : Block.Idx) : (p 1).val < 128 := (p 1).isLt

/-- The column of a block's element, as an index of the list of classes. -/
def col (p : Block.Idx) : Cols.Idx := colIx (p 1).val (Block.col_lt p)

variable {α : Type}

/-- The block that holds `o` in the columns from `16 * lo` to `16 * hi`, in the row that the
    column's class names, and `z` everywhere else. -/
def hot (o z : α) (X : Cols.Idx → BitVec 32) (lo hi : Nat) : Block.Idx → α := fun p =>
  if 16 * lo ≤ (p 1).val ∧ (p 1).val < 16 * hi ∧ (X (col p)).toNat = (p 0).val then o else z

/-- No column is set: the block is `z` throughout. -/
theorem hot_empty (o z : α) (X : Cols.Idx → BitVec 32) (n : Nat) : hot o z X n n = fun _ => z := by
  funext p; unfold hot; rw [if_neg]; omega

/-- Setting lanes one after another to the same value `y`: the element ends at `y` if some lane
    names it, and unchanged otherwise. -/
theorem foldl_set {ι β : Type} (names : ι → β → Prop) [∀ k j, Decidable (names k j)] (y : α)
    (l : List ι) (f : β → α) (j : β) :
    l.foldl (fun g k => fun j => if names k j then y else g j) f j
      = if (∃ k ∈ l, names k j) then y else f j := by
  classical
  induction l generalizing f with
  | nil => simp
  | cons k l ih =>
    rw [List.foldl_cons, ih]
    by_cases h : ∃ k ∈ l, names k j
    · rw [if_pos h, if_pos]; obtain ⟨k', hk, hn⟩ := h; exact ⟨k', List.mem_cons_of_mem _ hk, hn⟩
    · rw [if_neg h]
      by_cases h' : names k j
      · rw [if_pos h', if_pos ⟨k, List.mem_cons_self, h'⟩]
      · rw [if_neg h', if_neg]
        rintro ⟨k', hk, hn⟩
        rcases List.mem_cons.mp hk with rfl | hk
        · exact h' hn
        · exact h ⟨k', hk, hn⟩

variable {F : FTy → Type} [FloatOps F]

/-- An unmasked scatter that stores one value `y` in every lane: an element ends at `y` if some
    lane names it, and unchanged otherwise. -/
theorem storeIdx_const {e : EltTy} (f : Vec F Block e) (rows cols : IVec Lanes 32) (y : Elt F e)
    (h : ∀ a x, ((![rows, cols] : Fin 2 → IVec Lanes 32) a x).toNat < Block.size a) (p : Block.Idx) :
    storeIdx (d := ![16]) f ![rows, cols] (fun _ => y) (fun _ => 1#1) false h p
      = if (∃ k : Fin 16, (p 0).val = (rows (Shape.ofLane k)).toNat ∧ (p 1).val = (cols (Shape.ofLane k)).toNat)
        then y else f p := by
  have e1 : storeIdx (d := ![16]) f ![rows, cols] (fun _ => y) (fun _ => 1#1) false h
      = (List.finRange 16).foldl (fun g k => fun j =>
          if ((j 0).val = (rows (Shape.ofLane k)).toNat ∧ (j 1).val = (cols (Shape.ofLane k)).toNat) then y else g j) f := by
    unfold storeIdx
    have : ∀ (g : Vec F Block e) (k : Fin 16) (j : Block.Idx),
        (∀ a, (j a).val = (idxAt ![rows, cols] h (Shape.ofLane (d := ![16]) k) a).val)
          ↔ ((j 0).val = (rows (Shape.ofLane k)).toNat ∧ (j 1).val = (cols (Shape.ofLane k)).toNat) := by
      intro g k j
      exact Fin.forall_fin_two
    refine congrArg (fun s => List.foldl s f (List.finRange 16)) ?_
    funext g k j
    simp only [if_true]
    exact if_congr (this g k j) rfl rfl
  refine (congrFun e1 p).trans ((foldl_set (fun (k : Fin 16) (j : Block.Idx) =>
    (j 0).val = (rows (Shape.ofLane k)).toNat ∧ (j 1).val = (cols (Shape.ofLane k)).toNat) y _ f p).trans ?_)
  simp only [List.mem_finRange, true_and]

/-- The lanes' element `n` names, in words: lane `k`'s row is the class of column `16 * n + k`, its
    column is that column. -/
structure Names (X : Cols.Idx → BitVec 32) (n : Nat) (rows cols : IVec Lanes 32) : Prop where
  rows : ∀ (k : Fin 16) (h : 16 * n + k.val < 128), rows (Shape.ofLane k) = X (colIx (16 * n + k.val) h)
  cols : ∀ k : Fin 16, (cols (Shape.ofLane k)).toNat = 16 * n + k.val

/-- An element is named by some lane exactly when its column is among the sixteen and its row is
    that column's class. -/
theorem Names.iff {X : Cols.Idx → BitVec 32} {n : Nat} {rows cols : IVec Lanes 32} (hn : Names X n rows cols)
    (p : Block.Idx) :
    (∃ k : Fin 16, (p 0).val = (rows (Shape.ofLane k)).toNat ∧ (p 1).val = (cols (Shape.ofLane k)).toNat)
      ↔ 16 * n ≤ (p 1).val ∧ (p 1).val < 16 * (n + 1) ∧ (X (col p)).toNat = (p 0).val := by
  have hp : (p 1).val < 128 := Block.col_lt p
  constructor
  · rintro ⟨k, h0, h1⟩
    rw [hn.cols] at h1
    have hlt : 16 * n + k.val < 128 := h1 ▸ hp
    have hk := k.isLt
    rw [hn.rows k hlt] at h0
    refine ⟨by omega, by omega, ?_⟩
    rw [h0]; unfold col; congr 2; unfold colIx; funext a; exact Fin.ext h1
  · rintro ⟨h1, h2, h3⟩
    refine ⟨⟨(p 1).val - 16 * n, by omega⟩, ?_, ?_⟩
    · rw [hn.rows _ (by show 16 * n + ((p 1).val - 16 * n) < 128; omega), ← h3]
      unfold col colIx; congr 2; funext a; apply Fin.ext; show (p 1).val = 16 * n + ((p 1).val - 16 * n); omega
    · rw [hn.cols]; show (p 1).val = 16 * n + ((p 1).val - 16 * n); omega

/-- Sixteen more columns set: scattering `o` at the lanes' elements. -/
theorem hot_set {e : EltTy} (o z : Elt F e) {X : Cols.Idx → BitVec 32} {n : Nat} {rows cols : IVec Lanes 32}
    (hn : Names X n rows cols)
    (h : ∀ a x, ((![rows, cols] : Fin 2 → IVec Lanes 32) a x).toNat < Block.size a) :
    storeIdx (F := F) (e := e) (d := ![16]) (hot o z X 0 n) ![rows, cols] (fun _ => o) (fun _ => 1#1) false h
      = hot o z X 0 (n + 1) := by
  funext p
  rw [storeIdx_const, if_congr (hn.iff p) rfl rfl]
  unfold hot
  by_cases hX : (X (col p)).toNat = (p 0).val
  · simp only [hX, and_true]; repeat' split
    all_goals first | rfl | omega
  · simp only [hX, and_false, if_false]

/-- Sixteen columns cleared again: scattering `z` at the lanes' elements. -/
theorem hot_clear {e : EltTy} (o z : Elt F e) {X : Cols.Idx → BitVec 32} {n : Nat} {rows cols : IVec Lanes 32}
    (hn : Names X n rows cols)
    (h : ∀ a x, ((![rows, cols] : Fin 2 → IVec Lanes 32) a x).toNat < Block.size a) :
    storeIdx (F := F) (e := e) (d := ![16]) (hot o z X n 8) ![rows, cols] (fun _ => z) (fun _ => 1#1) false h
      = hot o z X (n + 1) 8 := by
  funext p
  rw [storeIdx_const, if_congr (hn.iff p) rfl rfl]
  unfold hot
  by_cases hX : (X (col p)).toNat = (p 0).val
  · simp only [hX, and_true]; repeat' split
    all_goals first | rfl | omega
  · simp only [hX, and_false, if_false]

/-- The lanes' indices lie in the block when every class is one of the block's rows. -/
theorem Names.inb {X : Cols.Idx → BitVec 32} {n : Nat} {rows cols : IVec Lanes 32} (hn : Names X n rows cols)
    (hn8 : n < 8) (hX : ∀ j, (X j).toNat < 1000) :
    ∀ a x, ((![rows, cols] : Fin 2 → IVec Lanes 32) a x).toNat < Block.size a := by
  intro a x
  have hx : x = Shape.ofLane (d := ![16]) (x 0) := by
    funext b; apply Fin.ext; rw [Subsingleton.elim b 0]; rfl
  have hk : (x 0).val < 16 := (x 0).isLt
  rw [hx]
  match a with
  | 0 => show (rows (Shape.ofLane (d := ![16]) (x 0))).toNat < 1000; rw [hn.rows (x 0) (by omega)]; exact hX _
  | 1 => exact lt_of_eq_of_lt (hn.cols (x 0)) (show 16 * n + (x 0).val < 128 by omega)

end Cert.Proof.OneHot

end
-- ==== Proof.KernelIdealBase.lean ====
/-
  The launch of the one-hot kernel as the proof sees it: the program's arrays and buffers, the
  resource algebra, what a tile is handed and hands back, and the geometry of the blocks.
-/
module

public import proofs.«01_k».proof.Defs
public import proofs.«01_k».proof.Proof.OneHot
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen Cert.Proof.OneHot

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The list of classes the kernel reads, and the array it fills, as locations of device `d`. -/
abbrev iLoc (d : Dev nD) : Loc nD τ sig := (SparseCore.T d).loc main_v1
abbrev oLoc (d : Dev nD) : Loc nD τ sig := (SparseCore.T d).loc main_v2

/-! ## The blocks -/

/-- The element `k` of the list of classes. -/
def flatIx (k : Nat) (h : k < 204800) : S204800.Idx := fun a => ⟨k, by rw [Subsingleton.elim a 0]; exact h⟩

/-- The classes of block `n`: 128 consecutive entries of the list. -/
def cls (xs : S204800.Idx → BitVec 32) (n : Nat) (hn : n < 1600) : Cols.Idx → BitVec 32 := fun j =>
  xs (flatIx (128 * n + (j 0).val) (by have : (j 0).val < 128 := (j 0).isLt; omega))

/-- The elements of the filled array that form block `n`: 1000 rows by 128 columns. -/
def blk (n : Nat) : Finset S200000x1024.Idx :=
  Finset.univ.filter fun p => (p 0).val / 1000 = n / 8 ∧ (p 1).val / 128 = n % 8

theorem mem_blk {n : Nat} {p : S200000x1024.Idx} : p ∈ blk n ↔ (p 0).val / 1000 = n / 8 ∧ (p 1).val / 128 = n % 8 := by
  simp [blk]

/-- The place in the list of classes that decides element `p`. -/
def flatOf (p : S200000x1024.Idx) : S204800.Idx := flatIx ((p 0).val / 1000 * 1024 + (p 1).val) (by
  have h0 : (p 0).val < 200000 := (p 0).isLt
  have h1 : (p 1).val < 1024 := (p 1).isLt
  omega)

variable [FloatOps F]

/-- The two values a filled element can take. -/
def one : F .f32 := Scalar.ofBits .f32 0x3F800000#32
def zero : F .f32 := Scalar.ofBits .f32 0x00000000#32

/-- The filled array: one where the row (modulo 1000) is the class of the element's place, and zero elsewhere. -/
def filled (xs : S204800.Idx → BitVec 32) : S200000x1024.Idx → F .f32 := fun p =>
  if (xs (flatOf p)).toNat = (p 0).val % 1000 then one else zero

/-- The number of the tile's group `g`. -/
abbrev wid (L : grid0.Coords) : Nat := (L 1).val * 2 + (L 0).val
theorem wid_lt (L : grid0.Coords) : wid L < 32 := by
  have h0 : (L 0).val < 2 := (L 0).isLt
  have h1 : (L 1).val < 16 := (L 1).isLt
  unfold wid; omega

end Cert.Proof.KernelIdealRun

end
-- ==== Proof.KernelIdealZero.lean ====
/-
  The kernel's first loop: it stores zeros over the block buffer, a row a trip.
-/
module

public import proofs.«01_k».proof.Proof.KernelIdealBase

@[expose] public section

noncomputable section

namespace Cert.Proof.KernelIdealRun

open Cert.KernelIdeal Cert.KernelIdeal.Gen Cert.Proof.OneHot

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iW" => (Memref.whole Cert.KernelIdeal.main_v1_scv : Memref Cert.KernelIdeal.sig Kind.scVector Space.hbm Cert.KernelIdeal.S204800 EltTy.i32)
local notation "oW" => (Memref.whole Cert.KernelIdeal.main_v2_scv : Memref Cert.KernelIdeal.sig Kind.scVector Space.hbm Cert.KernelIdeal.S200000x1024 EltTy.f32)
local notation "aW" => (Memref.whole Cert.KernelIdeal.cc0_scratch0 : Memref Cert.KernelIdeal.sig Kind.scVector Space.vmem Cert.KernelIdeal.S128 EltTy.i32)
local notation "bW" => (Memref.whole Cert.KernelIdeal.cc0_scratch1 : Memref Cert.KernelIdeal.sig Kind.scVector Space.vmem Cert.KernelIdeal.S128 EltTy.i32)
local notation "hW" => (Memref.whole Cert.KernelIdeal.cc0_scratch2 : Memref Cert.KernelIdeal.sig Kind.scVector Space.vmem Cert.KernelIdeal.S1000x128 EltTy.f32)

variable (d : Dev nD) (L : grid0.Coords)

abbrev cV : Fin τ.nSC := (L 0).castLE hcore0
abbrev jV : Fin τ.nSub := (L 1).castLE hsub0

/-- The rows before `k` of the block buffer hold zeros. -/
def zeroTo (k : Nat) : sProp 𝕄 :=
  iprop(∃ f, ⌜∀ p : S1000x128.Idx, (p 0).val < k → f p = zero (F := F)⌝ ∗ (hW).view.loc (V d (cV L) (jV L)) ↦{fullShare} f)

/-- Row `k` from column `c` on, sixteen elements. -/
theorem mem_row {off : Fin 2 → Nat} {k c : Nat} (e : off = ![k, c]) (inb : ∀ a, off a + S1x16.size a ≤ S1000x128.size a) (p : S1000x128.Idx) :
    p ∈ (Rect.unit (s := S1000x128) off S1x16.size inb).set ↔ (p 0).val = k ∧ c ≤ (p 1).val ∧ (p 1).val < c + 16 := by
  subst e
  rw [Rect.mem_set_unit]
  refine Fin.forall_fin_two.trans ?_
  show (k ≤ (p 0).val ∧ (p 0).val < k + 1) ∧ (c ≤ (p 1).val ∧ (p 1).val < c + 16) ↔ _
  omega

/-- One trip zeroes one more row. -/
theorem zero_trip (k : Fin k0_t1_loop.trips) :
    (zeroTo d L k.val : sProp 𝕄) ⊢ wp frame (wpE (defs₀ (F := F)) 𝒱₀ (V d (cV L) (jV L)) none) Set.univ
      (k0_t1_body L iW (Memref.isWhole_whole _) oW (Memref.isWhole_whole _) aW (Memref.isWhole_whole _) bW (Memref.isWhole_whole _)
        hW (Memref.isWhole_whole _) cc0_scratch3 cc0_scratch4 k ())
      (fun _ => zeroTo d L (k.val + 1)) := by
  unfold k0_t1_body zeroTo
  iintro ⟨%f, %hf, H⟩
  sl_exec
  sl_step
  iexists _; isplitr
  rotate_left
  · iexact H
  ipureintro
  intro p hp
  have hp1 : (p 1).val < 128 := (p 1).isLt
  refine (congrFun (View.read_whole (Val := Elt F) cc0_scratch2 _) p).symm.trans ?_
  by_cases h : (p 0).val < k.val
  · refine (View.read_writes_apply_of_forall_not_mem (hW).view f p _ ?_).trans (hf p h)
    simp only [List.forall_mem_cons, List.not_mem_nil, false_implies, implies_true, and_true, mem_row (k0_off1_eq k), mem_row (k0_off2_eq k),
      mem_row (k0_off3_eq k), mem_row (k0_off4_eq k), mem_row (k0_off5_eq k), mem_row (k0_off6_eq k), mem_row (k0_off7_eq k), mem_row (k0_off8_eq k)]
    omega
  · refine View.read_writes_apply_of_pieces (hW).view f (fun _ => zero (F := F)) _ ?_ p ?_
    · simp only [List.forall_mem_cons, List.not_mem_nil, false_implies, implies_true, and_true]
      exact ⟨fun _ => rfl, fun _ => rfl, fun _ => rfl, fun _ => rfl, fun _ => rfl, fun _ => rfl, fun _ => rfl, fun _ => rfl⟩
    · simp only [List.exists_mem_cons_iff, List.not_mem_nil, false_and, exists_false, or_false, mem_row (k0_off1_eq k), mem_row (k0_off2_eq k),
        mem_row (k0_off3_eq k), mem_row (k0_off4_eq k), mem_row (k0_off5_eq k), mem_row (k0_off6_eq k), mem_row (k0_off7_eq k), mem_row (k0_off8_eq k)]
      omega

end Cert.Proof.KernelIdealRun

end
-- ==== Proof.KernelIdealTrip.lean ====
/-
  One trip of the kernel's main loop: it scatters ones at the columns' classes into a block of zeros,
  copies the block out, scatters zeros back, and does the same for the next group, fetching each
  group's classes one group ahead. What the trip leaves is stated by `tripPost`.
-/
module

public import proofs.«01_k».proof.Proof.KernelIdealZero

@[expose] public section

noncomputable section

namespace Cert.Proof.KernelIdealRun

open Cert.KernelIdeal Cert.KernelIdeal.Gen Cert.Proof.OneHot

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iW" => (Memref.whole Cert.KernelIdeal.main_v1_scv : Memref Cert.KernelIdeal.sig Kind.scVector Space.hbm Cert.KernelIdeal.S204800 EltTy.i32)
local notation "oW" => (Memref.whole Cert.KernelIdeal.main_v2_scv : Memref Cert.KernelIdeal.sig Kind.scVector Space.hbm Cert.KernelIdeal.S200000x1024 EltTy.f32)
local notation "aW" => (Memref.whole Cert.KernelIdeal.cc0_scratch0 : Memref Cert.KernelIdeal.sig Kind.scVector Space.vmem Cert.KernelIdeal.S128 EltTy.i32)
local notation "bW" => (Memref.whole Cert.KernelIdeal.cc0_scratch1 : Memref Cert.KernelIdeal.sig Kind.scVector Space.vmem Cert.KernelIdeal.S128 EltTy.i32)
local notation "hW" => (Memref.whole Cert.KernelIdeal.cc0_scratch2 : Memref Cert.KernelIdeal.sig Kind.scVector Space.vmem Cert.KernelIdeal.S1000x128 EltTy.f32)

variable (d : Dev nD) (L : grid0.Coords)

/-! ## The trip's conditions, and the lanes it scatters -/

/-- A further group's classes are fetched in every trip's first half, and in the second half of every trip but the last. -/
theorem cond1_true : ∀ k, k0_cond1 k = 1#1 := by decide +kernel
theorem cond2_true : ∀ k, k0_cond2 k = 1#1 := by decide +kernel
theorem cond3_iff : ∀ k, k0_cond3 k = 1#1 ↔ k.val < 24 := by decide +kernel
theorem cond4_iff : ∀ k, k0_cond4 k = 1#1 ↔ k.val < 24 := by decide +kernel

/-- Sixteen consecutive column numbers from `c`. -/
def lanesFrom (c : Nat) : IVec S16 32 := addi (iota .scVector S16 32 [0] iota_S16_d0_w32_scVector) (broadcast S16 (BitVec.ofNat 32 c))

/-- Lane `k` of the column numbers from `c` is `c + k`. -/
theorem lanesFrom_apply (c : Nat) (hc : c < 1000) (k : Fin 16) : (lanesFrom c (Shape.ofLane (d := ![16]) k)).toNat = c + k.val := by
  have hk := k.isLt
  have e : lanesFrom c (Shape.ofLane (d := ![16]) k) = BitVec.ofNat 32 k.val + BitVec.ofNat 32 c := by
    show BitVec.ofNat 32 (0 * S16.size 0 + k.val) + BitVec.ofNat 32 c = _
    rw [Nat.zero_mul, Nat.zero_add]
  rw [e, BitVec.toNat_add, BitVec.toNat_ofNat, BitVec.toNat_ofNat]
  omega

/-- Sixteen words loaded from a list of classes name, with the column numbers, the elements of sixteen columns. -/
theorem names_read (M : Memref sig .scVector .vmem S128 .i32) (f : M.view.ty.Contents (Elt F)) (n : Nat)
    (inb : ∀ a, (![16 * n] : Fin 1 → Nat) a + S16.size a ≤ S128.size a) :
    Names (M.view.read (Elt F) f) n (M.view.readAt (Elt F) (Rect.unit (s := S128) ![16 * n] S16.size inb).toLoadRect f) (lanesFrom (16 * n)) := by
  have h := inb 0
  change 16 * n + 16 ≤ 128 at h
  constructor
  · intro k hk
    rw [View.readAt_apply]
    congr 1; funext a; apply Fin.ext
    have ha : a = (0 : Fin 1) := Subsingleton.elim (α := Fin 1) a 0
    subst ha
    show 16 * n + 1 * k.val = 16 * n + k.val
    omega
  · intro k
    exact lanesFrom_apply _ (by omega) k

/-- The scatter of ones: sixteen more columns set. -/
theorem scat_set {A : Type} {X : Cols.Idx → BitVec 32} {n : Nat} {rows cols : IVec S16 32} (hn : Names X n rows cols)
    {h : ∀ a x, ((![rows, cols] : Fin 2 → IVec S16 32) a x).toNat < S1000x128.size a} {hs}
    {k : PUnit → Prog (TpuEff nD τ sig (Elt F) Λ₀ (.scVector (cV L) (jV L))) A} {Q : A → sProp 𝕄} :
    ((hW).view.loc (V d (cV L) (jV L)) ↦{fullShare} hot (one (F := F)) zero X 0 n : sProp 𝕄)
      ⊢ iprop((((hW).view.loc (V d (cV L) (jV L)) ↦{fullShare} hot (one (F := F)) zero X 0 (n + 1))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx hW ![rows, cols] (k0_pay2 (F := F)) (fun _ => 1#1) false h hs >>= k) Q) := by
  have e : storeIdx (F := F) (e := .f32) (d := ![16]) (s := S1000x128) (hot (one (F := F)) zero X 0 n) ![rows, cols] (k0_pay2 (F := F)) (fun _ => 1#1) false h
      = hot (one (F := F)) zero X 0 (n + 1) := hot_set (F := F) (e := .f32) (one (F := F)) zero hn h
  have w := SparseCore.wp_vectorStoreIdx (defs := defs₀ (F := F)) (𝒱 := 𝒱₀) (c := V d (cV L) (jV L)) (bd := none) (E := Set.univ) (Name := ℕ) (U := UU) (Lvl := ℕ) (Ix := HIx 1)
    (base := hW) (idxs := ![rows, cols]) (v := k0_pay2 (F := F)) (mask := fun _ => 1#1) (add := false) (h := h) (hs := hs) (k := k) (Q := Q) (f := hot (one (F := F)) zero X 0 n)
  simp only [Memref.set_access_whole, Memref.read_access_whole, Memref.write_access_whole_univ] at w
  rw [e] at w
  exact w

/-- The scatter of zeros: sixteen columns cleared. -/
theorem scat_clear {A : Type} {X : Cols.Idx → BitVec 32} {n : Nat} {rows cols : IVec S16 32} (hn : Names X n rows cols)
    {h : ∀ a x, ((![rows, cols] : Fin 2 → IVec S16 32) a x).toNat < S1000x128.size a} {hs}
    {k : PUnit → Prog (TpuEff nD τ sig (Elt F) Λ₀ (.scVector (cV L) (jV L))) A} {Q : A → sProp 𝕄} :
    ((hW).view.loc (V d (cV L) (jV L)) ↦{fullShare} hot (one (F := F)) zero X n 8 : sProp 𝕄)
      ⊢ iprop((((hW).view.loc (V d (cV L) (jV L)) ↦{fullShare} hot (one (F := F)) zero X (n + 1) 8)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx hW ![rows, cols] (k0_pay1 (F := F)) (fun _ => 1#1) false h hs >>= k) Q) := by
  have e : storeIdx (F := F) (e := .f32) (d := ![16]) (s := S1000x128) (hot (one (F := F)) zero X n 8) ![rows, cols] (k0_pay1 (F := F)) (fun _ => 1#1) false h
      = hot (one (F := F)) zero X (n + 1) 8 := hot_clear (F := F) (e := .f32) (one (F := F)) zero hn h
  have w := SparseCore.wp_vectorStoreIdx (defs := defs₀ (F := F)) (𝒱 := 𝒱₀) (c := V d (cV L) (jV L)) (bd := none) (E := Set.univ) (Name := ℕ) (U := UU) (Lvl := ℕ) (Ix := HIx 1)
    (base := hW) (idxs := ![rows, cols]) (v := k0_pay1 (F := F)) (mask := fun _ => 1#1) (add := false) (h := h) (hs := hs) (k := k) (Q := Q) (f := hot (one (F := F)) zero X n 8)
  simp only [Memref.set_access_whole, Memref.read_access_whole, Memref.write_access_whole_univ] at w
  rw [e] at w
  exact w

/-- The same of the two buffers of classes. -/
theorem names_a (X : Cols.Idx → BitVec 32) (n : Nat) (inb : ∀ a, (![16 * n] : Fin 1 → Nat) a + S16.size a ≤ S128.size a) :
    Names X n ((aW).view.readAt (Elt F) (Rect.unit (s := S128) ![16 * n] S16.size inb).toLoadRect X) (lanesFrom (16 * n)) := names_read (F := F) aW X n inb
theorem names_b (X : Cols.Idx → BitVec 32) (n : Nat) (inb : ∀ a, (![16 * n] : Fin 1 → Nat) a + S16.size a ≤ S128.size a) :
    Names X n ((bW).view.readAt (Elt F) (Rect.unit (s := S128) ![16 * n] S16.size inb).toLoadRect X) (lanesFrom (16 * n)) := names_read (F := F) bW X n inb

theorem names_b_of {f X : Cols.Idx → BitVec 32} (hf : f = X) (n : Nat) (inb : ∀ a, (![16 * n] : Fin 1 → Nat) a + S16.size a ≤ S128.size a) :
    Names X n ((bW).view.readAt (Elt F) (Rect.unit (s := S128) ![16 * n] S16.size inb).toLoadRect f) (lanesFrom (16 * n)) := hf ▸ names_b f n inb

/-! ## The classes a trip fetches -/

/-- The columns' classes as the list's block `n`, read through the slice that starts there. -/
theorem read_slice_cls (xs : S204800.Idx → BitVec 32) (off : Fin 1 → Nat) (inb) (n : Nat) (hn : n < 1600) (ho : off 0 = 128 * n) :
    ((iW).slice (Rect.unit (s := S204800) off S128.size inb) (fun _ => rfl)).view.read (Elt F) xs = cls xs n hn := by
  funext j
  refine congrArg xs (funext fun a => Fin.ext ?_)
  have ha : a = (0 : Fin 1) := Subsingleton.elim (α := Fin 1) a 0
  subst ha
  show off 0 + 1 * (j 0).val = 128 * n + (j 0).val
  omega

/-- A fetch of block `n`'s classes leaves them in the buffer. -/
theorem fetch_a (xs : S204800.Idx → BitVec 32) (off : Fin 1 → Nat) (inb) {n : Nat} (ho : off 0 = 128 * n) (hn : n < 1600) (f : Cols.Idx → BitVec 32) :
    View.write (Elt F) (aW).view f (((iW).slice (Rect.unit (s := S204800) off S128.size inb) (fun _ => rfl)).view.read (Elt F) xs) Finset.univ = cls xs n hn :=
  (View.write_whole_univ _ _ _).trans (read_slice_cls (F := F) xs off inb n hn ho)
theorem fetch_b (xs : S204800.Idx → BitVec 32) (off : Fin 1 → Nat) (inb) {n : Nat} (ho : off 0 = 128 * n) (hn : n < 1600) (f : Cols.Idx → BitVec 32) :
    View.write (Elt F) (bW).view f (((iW).slice (Rect.unit (s := S204800) off S128.size inb) (fun _ => rfl)).view.read (Elt F) xs) Finset.univ = cls xs n hn :=
  (View.write_whole_univ _ _ _).trans (read_slice_cls (F := F) xs off inb n hn ho)

/-- Where the three fetches start, in the list of classes. -/
theorem off10_eq (k : Fin k0_t2_loop.trips) : k0_off10 L k 0 = 128 * (50 * wid L + 2 * k.val + 1) :=
  (congrFun (k0_off10_eq L k) 0).trans (by show 12800 * (L 1).val + 6400 * (L 0).val + 256 * k.val + 128 = _; unfold wid; omega)
theorem off13_eq (k : Fin k0_t2_loop.trips) : k0_off13 L k 0 = 128 * (50 * wid L + 2 * (k.val + 1)) :=
  (congrFun (k0_off13_eq L k) 0).trans (by show 12800 * (L 1).val + 6400 * (L 0).val + 256 * k.val + 256 = _; unfold wid; omega)
theorem off9_eq : k0_off9 L 0 = 128 * (50 * wid L) :=
  (congrFun (k0_off9_eq L) 0).trans (by show 12800 * (L 1).val + 6400 * (L 0).val = _; unfold wid; omega)

/-! ## Where a trip's two blocks lie, and what a block holds once it is copied out -/

/-- The corners of a trip's two blocks. -/
theorem off11_eq : ∀ (L : grid0.Coords) (k : Fin k0_t2_loop.trips),
    k0_off11 L k 0 = 1000 * ((50 * wid L + 2 * k.val) / 8) ∧ k0_off11 L k 1 = 128 * ((50 * wid L + 2 * k.val) % 8) := by decide +kernel
theorem off14_eq : ∀ (L : grid0.Coords) (k : Fin k0_t2_loop.trips),
    k0_off14 L k 0 = 1000 * ((50 * wid L + 2 * k.val + 1) / 8) ∧ k0_off14 L k 1 = 128 * ((50 * wid L + 2 * k.val + 1) % 8) := by decide +kernel

/-- A 1000 x 128 slice of the filled array. -/
abbrev oSl (off : Fin 2 → Nat) (inb : ∀ a, off a + S1000x128.size a ≤ S200000x1024.size a) : Memref Cert.KernelIdeal.sig Kind.scVector Space.hbm Cert.KernelIdeal.S1000x128 EltTy.f32 :=
  (oW).slice (Rect.unit (s := S200000x1024) off S1000x128.size inb) (fun _ => rfl)

/-- The slice at block `n`'s corner is block `n`. -/
theorem oSl_set {off : Fin 2 → Nat} (inb : ∀ a, off a + S1000x128.size a ≤ S200000x1024.size a) {n : Nat}
    (ho : off 0 = 1000 * (n / 8) ∧ off 1 = 128 * (n % 8)) : (oSl off inb).view.set = blk n := by
  obtain ⟨h0, h1⟩ := ho
  refine (View.set_slice_whole (main_v2_scv : Ref sig .scVector) (Rect.unit (s := S200000x1024) off S1000x128.size inb)).trans ?_
  ext p
  refine Rect.mem_set_unit.trans (Iff.trans Fin.forall_fin_two (Iff.trans ?_ mem_blk.symm))
  show (off 0 ≤ (p 0).val ∧ (p 0).val < off 0 + 1000) ∧ (off 1 ≤ (p 1).val ∧ (p 1).val < off 1 + 128) ↔ _
  omega

/-- The slice's elements, whatever they hold, as block `n` of the array. -/
theorem oSl_old {off : Fin 2 → Nat} (inb : ∀ a, off a + S1000x128.size a ≤ S200000x1024.size a) {n : Nat}
    (ho : off 0 = 1000 * (n / 8) ∧ off 1 = 128 * (n % 8)) (f : S200000x1024.Idx → F .f32) :
    ((oSl off inb).view.loc (V d (cV L) (jV L)) ↦[(oSl off inb).view.set]{fullShare} f : sProp 𝕄) = oLoc d ↦[blk n]{fullShare} f := by
  rw [oSl_set inb ho]

/-- Block `n` written with the one-hot columns of its classes is block `n` of the filled array. -/
theorem oSl_filled {off : Fin 2 → Nat} (inb : ∀ a, off a + S1000x128.size a ≤ S200000x1024.size a) {n : Nat} (hn : n < 1600)
    (ho : off 0 = 1000 * (n / 8) ∧ off 1 = 128 * (n % 8)) (xs : S204800.Idx → BitVec 32) (f : S200000x1024.Idx → F .f32) :
    ((oSl off inb).view.loc (V d (cV L) (jV L)) ↦[(oSl off inb).view.set]{fullShare}
        (oSl off inb).view.writes (Elt F) f [⟨Rect.whole S1000x128, hot (one (F := F)) zero (cls xs n hn) 0 8⟩] : sProp 𝕄)
      = oLoc d ↦[blk n]{fullShare} filled xs := by
  rw [← oSl_set inb ho]
  refine pointsTo_congr fun p hp => ?_
  obtain ⟨y, -, rfl⟩ := Finset.mem_map.mp hp
  rw [← View.write_univ_eq_writes_whole, View.writes_nil, View.write_emb_of_mem _ _ (Finset.mem_univ _)]
  refine (cast_eq _ _).trans ?_
  obtain ⟨h0, h1⟩ := ho
  have hy0 : (y 0).val < 1000 := (y 0).isLt
  have hy1 : (y 1).val < 128 := (y 1).isLt
  have e0 : ((oSl off inb).view.emb y 0).val = 1000 * (n / 8) + (y 0).val := by
    show off 0 + 1 * (y 0).val = _; omega
  have e1 : ((oSl off inb).view.emb y 1).val = 128 * (n % 8) + (y 1).val := by
    show off 1 + 1 * (y 1).val = _; omega
  have ef : flatOf ((oSl off inb).view.emb y) = flatIx (128 * n + (y 1).val) (by omega) := by
    funext a; apply Fin.ext
    show ((oSl off inb).view.emb y 0).val / 1000 * 1024 + ((oSl off inb).view.emb y 1).val = 128 * n + (y 1).val
    omega
  unfold hot filled
  rw [ef]
  refine if_congr ?_ rfl rfl
  show (16 * 0 ≤ (y 1).val ∧ (y 1).val < 16 * 8 ∧ (xs (flatIx (128 * n + (y 1).val) _)).toNat = (y 0).val) ↔ _
  rw [e0]
  omega

/-! ## One trip of the main loop -/

/-- What a trip leaves: the buffers of its scratch, its two blocks filled, and the next trip's classes fetched. -/
def tripPost (k : Fin k0_t2_loop.trips) (q : PosShare TreeShare) (xs : S204800.Idx → BitVec 32)
    (O : CellTallies nD τ sig (HIx 1)) (W : Waits sig (HIx 1)) : sProp 𝕄 :=
  iprop(Transfers.MayWaits (V d (cV L) (jV L)) (none : HIx 1) O
      ∗ ((iW).view.loc (V d (cV L) (jV L)) ↦{q} xs)
      ∗ (∃ X, ⌜∀ h : 50 * wid L + 2 * (k.val + 1) < 1600, k.val < 24 → X = cls xs (50 * wid L + 2 * (k.val + 1)) h⌝ ∗ (aW).view.loc (V d (cV L) (jV L)) ↦{fullShare} X)
      ∗ (∃ f, (bW).view.loc (V d (cV L) (jV L)) ↦{fullShare} f)
      ∗ ((hW).view.loc (V d (cV L) (jV L)) ↦{fullShare} (fun _ => zero (F := F)))
      ∗ (oLoc d ↦[blk (50 * wid L + 2 * k.val)]{fullShare} filled xs)
      ∗ (oLoc d ↦[blk (50 * wid L + 2 * k.val + 1)]{fullShare} filled xs)
      ∗ semVal (V d (cV L) (jV L), SemLoc.dma cc0_scratch3.sem) 0
      ∗ semVal (V d (cV L) (jV L), SemLoc.dma cc0_scratch4.sem) 0
      ∗ ∃ W', ⌜∀ p ∈ W', p ∈ W ∨ p.2 = none⌝ ∗ owes (V d (cV L) (jV L)) O W')

/-- One trip: it builds and copies out the blocks of two groups, and fetches the classes of the one after. -/
theorem trip (k : Fin k0_t2_loop.trips) (v1 : BitVec 32) (q : PosShare TreeShare) (xs : S204800.Idx → BitVec 32)
    (f0 : S200000x1024.Idx → F .f32) (hxs : ∀ j, (xs j).toNat < 1000)
    (hn : 50 * wid L + 2 * k.val < 1600) (O : CellTallies nD τ sig (HIx 1)) (W : Waits sig (HIx 1)) :
    (iprop(Transfers.MayWaits (V d (cV L) (jV L)) (none : HIx 1) O
      ∗ ((iW).view.loc (V d (cV L) (jV L)) ↦{q} xs)
      ∗ ((aW).view.loc (V d (cV L) (jV L)) ↦{fullShare} cls xs (50 * wid L + 2 * k.val) hn)
      ∗ (∃ f, (bW).view.loc (V d (cV L) (jV L)) ↦{fullShare} f)
      ∗ ((hW).view.loc (V d (cV L) (jV L)) ↦{fullShare} (fun _ => zero (F := F)))
      ∗ (oLoc d ↦[blk (50 * wid L + 2 * k.val)]{fullShare} f0)
      ∗ (oLoc d ↦[blk (50 * wid L + 2 * k.val + 1)]{fullShare} f0)
      ∗ semVal (V d (cV L) (jV L), SemLoc.dma cc0_scratch3.sem) 0
      ∗ semVal (V d (cV L) (jV L), SemLoc.dma cc0_scratch4.sem) 0
      ∗ owes (V d (cV L) (jV L)) O W) : sProp 𝕄) ⊢ wp frame (wpE (defs₀ (F := F)) 𝒱₀ (V d (cV L) (jV L)) none) Set.univ
      (k0_t2_body L iW (Memref.isWhole_whole _) oW (Memref.isWhole_whole _) aW (Memref.isWhole_whole _) bW (Memref.isWhole_whole _)
        hW (Memref.isWhole_whole _) cc0_scratch3 cc0_scratch4 v1 (iota .scVector S16 32 [0] iota_S16_d0_w32_scVector) k ())
      (fun _ => tripPost d L k q xs O W) := by
  have h1 := cond1_true k
  have h2 := cond2_true k
  have hw := wid_lt L
  have hk : k.val < 25 := k.isLt
  have hn1 : 50 * wid L + 2 * k.val + 1 < 1600 := by omega
  rw [← oSl_old (F := F) d L (k0_off11_inb L k) (off11_eq L k) f0, ← oSl_old (F := F) d L (k0_off14_inb L k) (off14_eq L k) f0]
  unfold k0_t2_body
  iintro ⟨Hmw, Hi, Ha, ⟨%fb, Hb⟩, Hh, Ho1, Ho2, Hs3, Hs4, HO⟩
  have hh (Y) : (fun _ => zero (F := F)) = hot (one (F := F)) zero Y 0 0 := (hot_empty _ _ _ _).symm
  have hh' (Y) : hot (one (F := F)) zero Y 8 8 = (fun _ => zero (F := F)) := hot_empty _ _ _ _
  ihave Hh := (Entails.of_eq (congrArg (fun g => ((hW).view.loc (V d (cV L) (jV L)) ↦{fullShare} g : sProp 𝕄)) (hh (cls xs (50 * wid L + 2 * k.val) hn)))) $$ Hh
  sl_exec (disch := exact (names_a (cls xs (50 * wid L + 2 * k.val) hn) 0 _).inb (by decide) (fun _ => hxs _))
  iapply (scat_set d L (names_a (F := F) (cls xs (50 * wid L + 2 * k.val) hn) 0 inb_S128_S16_0)) $$ Hh
  iintro Hh
  sl_exec (disch := exact (names_a (cls xs (50 * wid L + 2 * k.val) hn) 1 _).inb (by decide) (fun _ => hxs _))
  iapply (scat_set d L (names_a (F := F) (cls xs (50 * wid L + 2 * k.val) hn) 1 inb_S128_S16_16)) $$ Hh
  iintro Hh
  sl_exec (disch := exact (names_a (cls xs (50 * wid L + 2 * k.val) hn) 2 _).inb (by decide) (fun _ => hxs _))
  iapply (scat_set d L (names_a (F := F) (cls xs (50 * wid L + 2 * k.val) hn) 2 inb_S128_S16_32)) $$ Hh
  iintro Hh
  sl_exec (disch := exact (names_a (cls xs (50 * wid L + 2 * k.val) hn) 3 _).inb (by decide) (fun _ => hxs _))
  iapply (scat_set d L (names_a (F := F) (cls xs (50 * wid L + 2 * k.val) hn) 3 inb_S128_S16_48)) $$ Hh
  iintro Hh
  sl_exec (disch := exact (names_a (cls xs (50 * wid L + 2 * k.val) hn) 4 _).inb (by decide) (fun _ => hxs _))
  iapply (scat_set d L (names_a (F := F) (cls xs (50 * wid L + 2 * k.val) hn) 4 inb_S128_S16_64)) $$ Hh
  iintro Hh
  sl_exec (disch := exact (names_a (cls xs (50 * wid L + 2 * k.val) hn) 5 _).inb (by decide) (fun _ => hxs _))
  iapply (scat_set d L (names_a (F := F) (cls xs (50 * wid L + 2 * k.val) hn) 5 inb_S128_S16_80)) $$ Hh
  iintro Hh
  sl_exec (disch := exact (names_a (cls xs (50 * wid L + 2 * k.val) hn) 6 _).inb (by decide) (fun _ => hxs _))
  iapply (scat_set d L (names_a (F := F) (cls xs (50 * wid L + 2 * k.val) hn) 6 inb_S128_S16_96)) $$ Hh
  iintro Hh
  sl_exec (disch := exact (names_a (cls xs (50 * wid L + 2 * k.val) hn) 7 _).inb (by decide) (fun _ => hxs _))
  iapply (scat_set d L (names_a (F := F) (cls xs (50 * wid L + 2 * k.val) hn) 7 inb_S128_S16_112)) $$ Hh
  iintro Hh
  sl_exec (disch := exact (names_a (cls xs (50 * wid L + 2 * k.val) hn) 0 _).inb (by decide) (fun _ => hxs _))
  iapply (scat_clear d L (names_a (F := F) (cls xs (50 * wid L + 2 * k.val) hn) 0 inb_S128_S16_0)) $$ Hh
  iintro Hh
  sl_exec (disch := exact (names_a (cls xs (50 * wid L + 2 * k.val) hn) 1 _).inb (by decide) (fun _ => hxs _))
  iapply (scat_clear d L (names_a (F := F) (cls xs (50 * wid L + 2 * k.val) hn) 1 inb_S128_S16_16)) $$ Hh
  iintro Hh
  sl_exec (disch := exact (names_a (cls xs (50 * wid L + 2 * k.val) hn) 2 _).inb (by decide) (fun _ => hxs _))
  iapply (scat_clear d L (names_a (F := F) (cls xs (50 * wid L + 2 * k.val) hn) 2 inb_S128_S16_32)) $$ Hh
  iintro Hh
  sl_exec (disch := exact (names_a (cls xs (50 * wid L + 2 * k.val) hn) 3 _).inb (by decide) (fun _ => hxs _))
  iapply (scat_clear d L (names_a (F := F) (cls xs (50 * wid L + 2 * k.val) hn) 3 inb_S128_S16_48)) $$ Hh
  iintro Hh
  sl_exec (disch := exact (names_a (cls xs (50 * wid L + 2 * k.val) hn) 4 _).inb (by decide) (fun _ => hxs _))
  iapply (scat_clear d L (names_a (F := F) (cls xs (50 * wid L + 2 * k.val) hn) 4 inb_S128_S16_64)) $$ Hh
  iintro Hh
  sl_exec (disch := exact (names_a (cls xs (50 * wid L + 2 * k.val) hn) 5 _).inb (by decide) (fun _ => hxs _))
  iapply (scat_clear d L (names_a (F := F) (cls xs (50 * wid L + 2 * k.val) hn) 5 inb_S128_S16_80)) $$ Hh
  iintro Hh
  sl_exec (disch := exact (names_a (cls xs (50 * wid L + 2 * k.val) hn) 6 _).inb (by decide) (fun _ => hxs _))
  iapply (scat_clear d L (names_a (F := F) (cls xs (50 * wid L + 2 * k.val) hn) 6 inb_S128_S16_96)) $$ Hh
  iintro Hh
  sl_exec (disch := exact (names_a (cls xs (50 * wid L + 2 * k.val) hn) 7 _).inb (by decide) (fun _ => hxs _))
  iapply (scat_clear d L (names_a (F := F) (cls xs (50 * wid L + 2 * k.val) hn) 7 inb_S128_S16_112)) $$ Hh
  iintro Hh
  ihave Hh := (Entails.of_eq (congrArg (fun g => ((hW).view.loc (V d (cV L) (jV L)) ↦{fullShare} g : sProp 𝕄)) ((hh' _).trans (hh (cls xs (50 * wid L + 2 * k.val + 1) hn1))))) $$ Hh
  have hB : View.write (Elt F) (bW).view fb (((iW).slice (Rect.unit (s := S204800) (k0_off10 L k) S128.size (k0_off10_inb L k h1)) (fun _ => rfl)).view.read (Elt F) xs) Finset.univ
      = cls xs (50 * wid L + 2 * k.val + 1) hn1 := fetch_b xs _ _ (off10_eq L k) hn1 fb
  rcases (show (k0_cond3 k = 1#1 ∧ k0_cond4 k = 1#1 ∧ k.val < 24) ∨ (¬ k0_cond3 k = 1#1 ∧ ¬ k0_cond4 k = 1#1 ∧ ¬ k.val < 24) by
    rw [cond3_iff, cond4_iff]; omega) with ⟨h3, h4, h24⟩ | ⟨h3, h4, h24⟩
  all_goals sl_exec (disch := exact (names_b_of hB 0 _).inb (by decide) (fun _ => hxs _))
  all_goals iapply (scat_set d L (names_b_of (F := F) hB 0 inb_S128_S16_0)) $$ Hh
  all_goals iintro Hh
  all_goals sl_exec (disch := exact (names_b_of hB 1 _).inb (by decide) (fun _ => hxs _))
  all_goals iapply (scat_set d L (names_b_of (F := F) hB 1 inb_S128_S16_16)) $$ Hh
  all_goals iintro Hh
  all_goals sl_exec (disch := exact (names_b_of hB 2 _).inb (by decide) (fun _ => hxs _))
  all_goals iapply (scat_set d L (names_b_of (F := F) hB 2 inb_S128_S16_32)) $$ Hh
  all_goals iintro Hh
  all_goals sl_exec (disch := exact (names_b_of hB 3 _).inb (by decide) (fun _ => hxs _))
  all_goals iapply (scat_set d L (names_b_of (F := F) hB 3 inb_S128_S16_48)) $$ Hh
  all_goals iintro Hh
  all_goals sl_exec (disch := exact (names_b_of hB 4 _).inb (by decide) (fun _ => hxs _))
  all_goals iapply (scat_set d L (names_b_of (F := F) hB 4 inb_S128_S16_64)) $$ Hh
  all_goals iintro Hh
  all_goals sl_exec (disch := exact (names_b_of hB 5 _).inb (by decide) (fun _ => hxs _))
  all_goals iapply (scat_set d L (names_b_of (F := F) hB 5 inb_S128_S16_80)) $$ Hh
  all_goals iintro Hh
  all_goals sl_exec (disch := exact (names_b_of hB 6 _).inb (by decide) (fun _ => hxs _))
  all_goals iapply (scat_set d L (names_b_of (F := F) hB 6 inb_S128_S16_96)) $$ Hh
  all_goals iintro Hh
  all_goals sl_exec (disch := exact (names_b_of hB 7 _).inb (by decide) (fun _ => hxs _))
  all_goals iapply (scat_set d L (names_b_of (F := F) hB 7 inb_S128_S16_112)) $$ Hh
  all_goals iintro Hh
  all_goals sl_exec (disch := exact (names_b_of hB 0 _).inb (by decide) (fun _ => hxs _))
  all_goals iapply (scat_clear d L (names_b_of (F := F) hB 0 inb_S128_S16_0)) $$ Hh
  all_goals iintro Hh
  all_goals sl_exec (disch := exact (names_b_of hB 1 _).inb (by decide) (fun _ => hxs _))
  all_goals iapply (scat_clear d L (names_b_of (F := F) hB 1 inb_S128_S16_16)) $$ Hh
  all_goals iintro Hh
  all_goals sl_exec (disch := exact (names_b_of hB 2 _).inb (by decide) (fun _ => hxs _))
  all_goals iapply (scat_clear d L (names_b_of (F := F) hB 2 inb_S128_S16_32)) $$ Hh
  all_goals iintro Hh
  all_goals sl_exec (disch := exact (names_b_of hB 3 _).inb (by decide) (fun _ => hxs _))
  all_goals iapply (scat_clear d L (names_b_of (F := F) hB 3 inb_S128_S16_48)) $$ Hh
  all_goals iintro Hh
  all_goals sl_exec (disch := exact (names_b_of hB 4 _).inb (by decide) (fun _ => hxs _))
  all_goals iapply (scat_clear d L (names_b_of (F := F) hB 4 inb_S128_S16_64)) $$ Hh
  all_goals iintro Hh
  all_goals sl_exec (disch := exact (names_b_of hB 5 _).inb (by decide) (fun _ => hxs _))
  all_goals iapply (scat_clear d L (names_b_of (F := F) hB 5 inb_S128_S16_80)) $$ Hh
  all_goals iintro Hh
  all_goals sl_exec (disch := exact (names_b_of hB 6 _).inb (by decide) (fun _ => hxs _))
  all_goals iapply (scat_clear d L (names_b_of (F := F) hB 6 inb_S128_S16_96)) $$ Hh
  all_goals iintro Hh
  all_goals sl_exec (disch := exact (names_b_of hB 7 _).inb (by decide) (fun _ => hxs _))
  all_goals iapply (scat_clear d L (names_b_of (F := F) hB 7 inb_S128_S16_112)) $$ Hh
  all_goals iintro Hh
  all_goals sl_exec
  all_goals sl_step
  all_goals
    ihave Hh := (Entails.of_eq (congrArg (fun g => ((hW).view.loc (V d (cV L) (jV L)) ↦{fullShare} g : sProp 𝕄)) (hh' _))) $$ Hh
    unfold tripPost
    isplitl [Hmw]; · iexact Hmw
    isplitl [Hi]; · iexact Hi
    isplitl [Ha]
    · iexists _
      isplitr
      swap
      · iexact Ha
      · ipureintro
        intro h h'
        first
          | exact absurd h' h24
          | exact fetch_a xs _ _ (off13_eq L k) h _
    isplitl [Hb]; · iexists _; iexact Hb
    isplitl [Hh]; · iexact Hh
    isplitl [Ho1]
    · rw [← oSl_filled (F := F) d L (k0_off11_inb L k) hn (off11_eq L k) xs f0]; iexact Ho1
    isplitl [Ho2]
    · rw [← oSl_filled (F := F) d L (k0_off14_inb L k) hn1 (off14_eq L k) xs f0]; iexact Ho2
    isplitl [Hs3]; · iexact Hs3
    isplitl [Hs4]; · iexact Hs4
    iexists _
    isplitr
    swap
    · iexact HO
    · ipureintro
      intro p hp
      simp only [Finset.mem_insert] at hp
      first
        | (rcases hp with rfl | rfl | rfl | rfl | hp <;> first | exact .inr rfl | exact .inl hp)
        | (rcases hp with rfl | rfl | rfl | hp <;> first | exact .inr rfl | exact .inl hp)

end Cert.Proof.KernelIdealRun

end
-- ==== Proof.KernelIdealTile.lean ====
/-
  A tile's whole run: its block buffer zeroed, its first classes fetched, and the trips of the main
  loop, which fill the tile's fifty blocks two by two.
-/
module

public import proofs.«01_k».proof.Proof.KernelIdealTrip

@[expose] public section

noncomputable section

namespace Cert.Proof.KernelIdealRun

open Cert.KernelIdeal Cert.KernelIdeal.Gen Cert.Proof.OneHot

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iW" => (Memref.whole Cert.KernelIdeal.main_v1_scv : Memref Cert.KernelIdeal.sig Kind.scVector Space.hbm Cert.KernelIdeal.S204800 EltTy.i32)
local notation "oW" => (Memref.whole Cert.KernelIdeal.main_v2_scv : Memref Cert.KernelIdeal.sig Kind.scVector Space.hbm Cert.KernelIdeal.S200000x1024 EltTy.f32)
local notation "aW" => (Memref.whole Cert.KernelIdeal.cc0_scratch0 : Memref Cert.KernelIdeal.sig Kind.scVector Space.vmem Cert.KernelIdeal.S128 EltTy.i32)
local notation "bW" => (Memref.whole Cert.KernelIdeal.cc0_scratch1 : Memref Cert.KernelIdeal.sig Kind.scVector Space.vmem Cert.KernelIdeal.S128 EltTy.i32)
local notation "hW" => (Memref.whole Cert.KernelIdeal.cc0_scratch2 : Memref Cert.KernelIdeal.sig Kind.scVector Space.vmem Cert.KernelIdeal.S1000x128 EltTy.f32)

variable (d : Dev nD) (L : grid0.Coords)

variable (q : PosShare TreeShare) (xs : S204800.Idx → BitVec 32) (f0 : S200000x1024.Idx → F .f32)

/-! ## The tile's fifty blocks -/

/-- What block `g` of the tile holds once the first `n` are filled. -/
def blkAt (n g : Nat) : sProp 𝕄 := oLoc d ↦[blk (50 * wid L + g)]{fullShare} (if g < n then filled xs else f0)

/-- The tile's fifty blocks, the first `n` of them filled. -/
def outs (n : Nat) : sProp 𝕄 := bigSep (Finset.range 50) (blkAt d L xs f0 n)

/-- The blocks other than those of trip `k`. -/
def others (k : Nat) : sProp 𝕄 := bigSep (((Finset.range 50).erase (2 * k)).erase (2 * k + 1)) (blkAt d L xs f0 (2 * k))

theorem blkAt_old {n g : Nat} (h : n ≤ g) : (blkAt d L xs f0 n g : sProp 𝕄) = oLoc d ↦[blk (50 * wid L + g)]{fullShare} f0 := by
  unfold blkAt; rw [if_neg (by omega)]
theorem blkAt_filled {n g : Nat} (h : g < n) : (blkAt d L xs f0 n g : sProp 𝕄) = oLoc d ↦[blk (50 * wid L + g)]{fullShare} filled xs := by
  unfold blkAt; rw [if_pos h]

/-- Before trip `k`, its two blocks are unfilled; -/
theorem outs_before {k : Nat} (hk : k < 25) :
    (outs d L xs f0 (2 * k) : sProp 𝕄) = iprop((oLoc d ↦[blk (50 * wid L + 2 * k)]{fullShare} f0)
      ∗ (oLoc d ↦[blk (50 * wid L + 2 * k + 1)]{fullShare} f0) ∗ others d L xs f0 k) := by
  unfold outs others
  rw [SparseCore.bigSep_erase' (i := 2 * k) (Finset.mem_range.mpr (by omega)),
    SparseCore.bigSep_erase' (i := 2 * k + 1) (Finset.mem_erase.mpr ⟨by omega, Finset.mem_range.mpr (by omega)⟩),
    blkAt_old d L xs f0 (le_refl _), blkAt_old d L xs f0 (by omega)]
  rfl

/-- after it, they are filled, and the others as they were. -/
theorem outs_after {k : Nat} (hk : k < 25) :
    (outs d L xs f0 (2 * (k + 1)) : sProp 𝕄) = iprop((oLoc d ↦[blk (50 * wid L + 2 * k)]{fullShare} filled xs)
      ∗ (oLoc d ↦[blk (50 * wid L + 2 * k + 1)]{fullShare} filled xs) ∗ others d L xs f0 k) := by
  unfold outs others
  rw [SparseCore.bigSep_erase' (i := 2 * k) (Finset.mem_range.mpr (by omega)),
    SparseCore.bigSep_erase' (i := 2 * k + 1) (Finset.mem_erase.mpr ⟨by omega, Finset.mem_range.mpr (by omega)⟩),
    blkAt_filled d L xs f0 (by omega), blkAt_filled d L xs f0 (by omega)]
  rw [bigSep_congr (Ψ := blkAt d L xs f0 (2 * k)) fun g hg => ?_]
  · rfl
  · have h1 := Finset.mem_erase.mp hg
    have h2 := Finset.mem_erase.mp h1.2
    unfold blkAt
    by_cases h : g < 2 * k
    · rw [if_pos h, if_pos (by omega)]
    · rw [if_neg h, if_neg (by omega)]

/-! ## The main loop's invariant -/

/-- Before trip `k`: the classes of its first group fetched, the block buffer at zeros, the blocks of the earlier trips filled. -/
def inv (O : CellTallies nD τ sig (HIx 1)) (W : Waits sig (HIx 1)) (k : Nat) (_ : Unit) : sProp 𝕄 :=
  iprop(Transfers.MayWaits (V d (cV L) (jV L)) (none : HIx 1) O
      ∗ ((iW).view.loc (V d (cV L) (jV L)) ↦{q} xs)
      ∗ (∃ X, ⌜∀ h : 50 * wid L + 2 * k < 1600, k < 25 → X = cls xs (50 * wid L + 2 * k) h⌝ ∗ (aW).view.loc (V d (cV L) (jV L)) ↦{fullShare} X)
      ∗ (∃ f, (bW).view.loc (V d (cV L) (jV L)) ↦{fullShare} f)
      ∗ ((hW).view.loc (V d (cV L) (jV L)) ↦{fullShare} (fun _ => zero (F := F)))
      ∗ outs d L xs f0 (2 * k)
      ∗ semVal (V d (cV L) (jV L), SemLoc.dma cc0_scratch3.sem) 0
      ∗ semVal (V d (cV L) (jV L), SemLoc.dma cc0_scratch4.sem) 0
      ∗ ∃ W', ⌜∀ p ∈ W', p ∈ W ∨ p.2 = none⌝ ∗ owes (V d (cV L) (jV L)) O W')

/-- One trip keeps the invariant. -/
theorem inv_trip (hxs : ∀ j, (xs j).toNat < 1000) (O : CellTallies nD τ sig (HIx 1)) (W : Waits sig (HIx 1))
    (v1 : BitVec 32) (k : Fin k0_t2_loop.trips) :
    (inv d L q xs f0 O W k.val () : sProp 𝕄) ⊢ wp frame (wpE (defs₀ (F := F)) 𝒱₀ (V d (cV L) (jV L)) none) Set.univ
      (k0_t2_body L iW (Memref.isWhole_whole _) oW (Memref.isWhole_whole _) aW (Memref.isWhole_whole _) bW (Memref.isWhole_whole _)
        hW (Memref.isWhole_whole _) cc0_scratch3 cc0_scratch4 v1 (iota .scVector S16 32 [0] iota_S16_d0_w32_scVector) k ())
      (fun r => inv d L q xs f0 O W (k.val + 1) r) := by
  have hk : k.val < 25 := k.isLt
  have hw := wid_lt L
  have hn : 50 * wid L + 2 * k.val < 1600 := by omega
  unfold inv
  rw [outs_before d L xs f0 hk, outs_after d L xs f0 hk]
  iintro ⟨Hmw, Hi, ⟨%X, %hX, Ha⟩, Hb, Hh, ⟨Ho1, Ho2, Hrest⟩, Hs3, Hs4, %W', %hW', HO⟩
  obtain rfl := hX hn hk
  iapply (wp_wand_r frame _ _ (Q := fun _ => tripPost d L k q xs O W'))
  isplitr [Hrest]
  · iapply (trip d L k v1 q xs f0 hxs hn O W')
    isplitl [Hmw]; · iexact Hmw
    isplitl [Hi]; · iexact Hi
    isplitl [Ha]; · iexact Ha
    isplitl [Hb]; · iexact Hb
    isplitl [Hh]; · iexact Hh
    isplitl [Ho1]; · iexact Ho1
    isplitl [Ho2]; · iexact Ho2
    isplitl [Hs3]; · iexact Hs3
    isplitl [Hs4]; · iexact Hs4
    iexact HO
  · iintro %_ H
    unfold tripPost
    icases H with ⟨Hmw, Hi, ⟨%X, %hX, Ha⟩, Hb, Hh, Ho1, Ho2, Hs3, Hs4, %W2, %hW2, HO⟩
    isplitl [Hmw]; · iexact Hmw
    isplitl [Hi]; · iexact Hi
    isplitl [Ha]
    · iexists X; isplitr
      · ipureintro; exact fun h h' => hX h (by omega)
      · iexact Ha
    isplitl [Hb]; · iexact Hb
    isplitl [Hh]; · iexact Hh
    isplitl [Ho1 Ho2 Hrest]
    · isplitl [Ho1]; · iexact Ho1
      isplitl [Ho2]; · iexact Ho2
      iexact Hrest
    isplitl [Hs3]; · iexact Hs3
    isplitl [Hs4]; · iexact Hs4
    iexists W2; isplitr
    · ipureintro
      exact fun p hp => (hW2 p hp).elim (hW' p) Or.inr
    · iexact HO

/-! ## The tile's own buffers and semaphores -/

abbrev cell3 : GSem nD τ sig := (V d (cV L) (jV L), SemLoc.dma cc0_scratch3.sem)
abbrev cell4 : GSem nD τ sig := (V d (cV L) (jV L), SemLoc.dma cc0_scratch4.sem)

/-- The two transfer semaphores are among the tile's own. -/
theorem ownSems0_tile :
    (ownSems0 (V d (cV L) (jV L)) : sProp 𝕄)
      = iprop(semVal (cell3 d L) 0 ∗ semVal (cell4 d L) 0
          ∗ bigSep (((ownCells (V d (cV L) (jV L))).erase (cell3 d L)).erase (cell4 d L)) fun g => semVal g 0) := by
  unfold SparseCore.Cfg.ownSems0
  rw [SparseCore.bigSep_erase' ((mem_ownCells (g := cell3 d L)).mpr ⟨rfl, by
      show (SemLoc.dma cc0_scratch3.sem : SemLoc sig).isScoped .scVector = true; decide⟩),
    SparseCore.bigSep_erase' (Finset.mem_erase.mpr ⟨by simp [cell3, cell4]; decide, (mem_ownCells (g := cell4 d L)).mpr ⟨rfl, by
      show (SemLoc.dma cc0_scratch4.sem : SemLoc sig).isScoped .scVector = true; decide⟩⟩)]

/-- The three scratch buffers are among the tile's own. -/
theorem ownBufs_tile :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The tile's run -/

/-- Zeroing has reached the last row: the block buffer holds zeros. -/
theorem zeroTo_all : (zeroTo d L k0_t1_loop.trips : sProp 𝕄) ⊢ (hW).view.loc (V d (cV L) (jV L)) ↦{fullShare} (fun _ => zero (F := F)) := by
  unfold zeroTo
  iintro ⟨%f, %hf, H⟩
  have e : f = fun _ => zero (F := F) := funext fun p => hf p (p 0).isLt
  subst e
  iexact H

/-- A tile handed a share of the list of classes and its fifty blocks hands them back, the blocks filled. -/
theorem tile_body (hxs : ∀ j, (xs j).toNat < 1000) (O : CellTallies nD τ sig (HIx 1)) (W : Waits sig (HIx 1)) (hO : ∀ g, O g none = 0) :
    iprop(levAts (K (F := F)).L (K (F := F)).lev ∗ emp ∗ ((iLoc d ↦{q} xs) ∗ outs d L xs f0 0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L iW (Memref.isWhole_whole _) oW (Memref.isWhole_whole _) aW (Memref.isWhole_whole _) bW (Memref.isWhole_whole _)
            hW (Memref.isWhole_whole _) cc0_scratch3 cc0_scratch4)
          fun _ => iprop(((iLoc d ↦{q} xs) ∗ outs d L xs f0 50) ∗ scopedBufs (V d (cV L) (jV L)) ∗ scopedSems0 (V d (cV L) (jV L))
            ∗ ∃ W', ⌜∀ p ∈ W', p ∈ W ∨ p.2 = none⌝ ∗ owes (V d (cV L) (jV L)) O W') := by
  have hw := wid_lt L
  have hn : 50 * wid L < 1600 := by omega
  simp only [cc0_k_eq_skeleton]; unfold cc0_k_skel
  rw [(K (F := F)).scopedBufs_V facts d (cV L) (jV L), SparseCore.Cfg.scopedSems0_V (Val := Elt F) d (cV L) (jV L), ownSems0_tile, ownBufs_tile]
  iintro ⟨#Hlv, -, ⟨Hi, Ho⟩, ⟨⟨%fa, Ha⟩, ⟨%fb, Hb⟩, ⟨%fh, Hh⟩, Hbufs⟩, ⟨Hs3, Hs4, Hsems⟩, HO⟩
  ihave Hmw := ((K (F := F)).mayWaits_none (thr := V d (cV L) (jV L)) hO) $$ Hlv
  ihave Hi := (Entails.of_eq (show (iLoc d ↦{q} xs : sProp 𝕄) = ((iW).view.loc (V d (cV L) (jV L)) ↦{q} xs) from rfl)) $$ Hi
  ihave Ha := (Entails.of_eq (show ((V d (cV L) (jV L)).loc cc0_scratch0 ↦{fullShare} fa : sProp 𝕄) = ((aW).view.loc (V d (cV L) (jV L)) ↦{fullShare} fa) from rfl)) $$ Ha
  ihave Hb := (Entails.of_eq (show ((V d (cV L) (jV L)).loc cc0_scratch1 ↦{fullShare} fb : sProp 𝕄) = ((bW).view.loc (V d (cV L) (jV L)) ↦{fullShare} fb) from rfl)) $$ Hb
  ihave Hh := (Entails.of_eq (show ((V d (cV L) (jV L)).loc cc0_scratch2 ↦{fullShare} fh : sProp 𝕄) = ((hW).view.loc (V d (cV L) (jV L)) ↦{fullShare} fh) from rfl)) $$ Hh
  sl_exec
  sl_for (fun k _ => zeroTo d L k) $$ [Hh]
  case region =>
    intro k _
    exact zero_trip d L k
  · unfold zeroTo
    iexists fh; isplitr
    · ipureintro; exact fun p hp => absurd hp (Nat.not_lt_zero _)
    · iexact Hh
  iintro %_ Hh
  ihave Hh := (zeroTo_all d L) $$ Hh
  sl_exec
  sl_for (inv d L q xs f0 O W) $$ [Hmw Hi Ha Hb Hh Ho Hs3 Hs4 HO]
  case region =>
    intro k _
    exact inv_trip d L q xs f0 hxs O W _ k
  · unfold inv
    isplitl [Hmw]; · iexact Hmw
    isplitl [Hi]; · iexact Hi
    isplitl [Ha]
    · iexists _
      isplitr
      swap
      · iexact Ha
      · ipureintro
        intro h _
        exact fetch_a xs _ _ (off9_eq L) h _
    isplitl [Hb]; · iexists _; iexact Hb
    isplitl [Hh]; · iexact Hh
    isplitl [Ho]; · iexact Ho
    isplitl [Hs3]; · iexact Hs3
    isplitl [Hs4]; · iexact Hs4
    iexists _
    isplitr
    swap
    · iexact HO
    · ipureintro
      intro p hp
      simp only [Finset.mem_insert] at hp
      rcases hp with rfl | hp <;> first | exact .inr rfl | exact .inl hp
  iintro %_ HI
  unfold inv
  icases HI with ⟨-, Hi, ⟨%X, -, Ha⟩, ⟨%fb', Hb⟩, Hh, Ho, Hs3, Hs4, %W', %hW', HO⟩
  sl_exec
  sl_step
  isplitl [Hi Ho]
  · isplitl [Hi]; · iexact Hi
    iexact Ho
  isplitl [Ha Hb Hh Hbufs]
  · isplitl [Ha]; · iexists _; iexact Ha
    isplitl [Hb]; · iexists _; iexact Hb
    isplitl [Hh]; · iexists _; iexact Hh
    iexact Hbufs
  isplitl [Hs3 Hs4 Hsems]
  · isplitl [Hs3]; · iexact Hs3
    isplitl [Hs4]; · iexact Hs4
    iexact Hsems
  iexists W'; isplitr
  · ipureintro; exact hW'
  · iexact HO

end Cert.Proof.KernelIdealRun

end
-- ==== Proof.KernelIdealLaunch.lean ====
/-
  What the call hands the two SparseCores and what each hands its sixteen tiles: a share of the list
  of classes, and the blocks that are the tile's to fill.  The launch theorem's obligations follow
  from the tile's run and from the way the blocks tile the filled array.
-/
module

public import proofs.«01_k».proof.Proof.KernelIdealTile

@[expose] public section

noncomputable section

namespace Cert.Proof.KernelIdealRun

open Cert.KernelIdeal Cert.KernelIdeal.Gen Cert.Proof.OneHot

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iW" => (Memref.whole Cert.KernelIdeal.main_v1_scv : Memref Cert.KernelIdeal.sig Kind.scVector Space.hbm Cert.KernelIdeal.S204800 EltTy.i32)
local notation "oW" => (Memref.whole Cert.KernelIdeal.main_v2_scv : Memref Cert.KernelIdeal.sig Kind.scVector Space.hbm Cert.KernelIdeal.S200000x1024 EltTy.f32)
local notation "aW" => (Memref.whole Cert.KernelIdeal.cc0_scratch0 : Memref Cert.KernelIdeal.sig Kind.scVector Space.vmem Cert.KernelIdeal.S128 EltTy.i32)
local notation "bW" => (Memref.whole Cert.KernelIdeal.cc0_scratch1 : Memref Cert.KernelIdeal.sig Kind.scVector Space.vmem Cert.KernelIdeal.S128 EltTy.i32)
local notation "hW" => (Memref.whole Cert.KernelIdeal.cc0_scratch2 : Memref Cert.KernelIdeal.sig Kind.scVector Space.vmem Cert.KernelIdeal.S1000x128 EltTy.f32)

/-! ## The blocks tile the filled array -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem blk_disjoint : ∀ i ∈ Finset.range 1600, ∀ j ∈ Finset.range 1600, i ≠ j → Disjoint (blk i) (blk j) := by
  intro i _ j _ h
  refine Finset.disjoint_left.mpr fun p hi hj => h ?_
  have hi := mem_blk.mp hi
  have hj := mem_blk.mp hj
  omega

theorem blk_cover : (Finset.range 1600).biUnion blk = Finset.univ := by
  ext p
  have h0 : (p 0).val < 200000 := (p 0).isLt
  have h1 : (p 1).val < 1024 := (p 1).isLt
  simp only [Finset.mem_biUnion, Finset.mem_range, Finset.mem_univ, iff_true]
  exact ⟨(p 0).val / 1000 * 8 + (p 1).val / 128, by omega, mem_blk.mpr (by omega)⟩

/-- The block number of group `g` of tile `s` of SparseCore `c`. -/
def blkNo (t : Fin 2 × Fin 16 × ℕ) : ℕ := 50 * (t.2.1.val * 2 + t.1.val) + t.2.2

theorem blkNo_injOn : Set.InjOn blkNo
    (((Finset.univ : Finset (Fin 2)) ×ˢ ((Finset.univ : Finset (Fin 16)) ×ˢ Finset.range 50) : Finset (Fin 2 × Fin 16 × ℕ)) : Set (Fin 2 × Fin 16 × ℕ)) := by
  rintro ⟨c, s, g⟩ h ⟨c', s', g'⟩ h' e
  simp only [Finset.coe_product, Set.mem_prod, Finset.mem_coe, Finset.mem_range] at h h'
  have hg := h.2.2
  have hg' := h'.2.2
  have hc := c.isLt
  have hc' := c'.isLt
  simp only [blkNo] at e
  have e1 : c.val = c'.val := by omega
  have e2 : s.val = s'.val := by omega
  have e3 : g = g' := by omega
  rw [Fin.ext e1, Fin.ext e2, e3]

theorem blkNo_image : ((Finset.univ : Finset (Fin 2)) ×ˢ ((Finset.univ : Finset (Fin 16)) ×ˢ Finset.range 50)).image blkNo = Finset.range 1600 := by
  ext n
  simp only [Finset.mem_image, Finset.mem_product, Finset.mem_univ, true_and, Finset.mem_range, Prod.exists, blkNo]
  constructor
  · rintro ⟨c, s, g, hg, rfl⟩
    have := c.isLt
    have := s.isLt
    omega
  · intro hn
    exact ⟨⟨n / 50 % 2, by omega⟩, ⟨n / 50 / 2, by omega⟩, n % 50, by omega, by dsimp only; omega⟩

/-- A points-to of the whole filled array is one for each block, block by block of each tile. -/
theorem oPts_blocks (d : Dev nD) (f : S200000x1024.Idx → F .f32) :
    (oLoc d ↦{fullShare} f : sProp 𝕄)
      = bigSep Finset.univ fun c : Fin 2 => bigSep Finset.univ fun s : Fin 16 => bigSep (Finset.range 50) fun g =>
          oLoc d ↦[blk (50 * wid (coordsV c s) + g)]{fullShare} f := by
  have e : (oLoc d ↦{fullShare} f : sProp 𝕄) = bigSep (Finset.range 1600) fun n => oLoc d ↦[blk n]{fullShare} f := by
    rw [← pointsTo_biUnion (Finset.range 1600) (ℓ := oLoc d) blk blk_disjoint, blk_cover]; try rfl
  rw [e, ← blkNo_image, SparseCore.bigSep_image_of_injOn blkNo_injOn, SparseCore.bigSep_product]
  refine bigSep_congr fun c _ => ?_
  rw [SparseCore.bigSep_product]
  rfl

/-- The tiles' blocks before any is filled, -/
theorem outs_zero (d : Dev nD) (L : grid0.Coords) (xs : S204800.Idx → BitVec 32) (f0 : S200000x1024.Idx → F .f32) :
    (outs d L xs f0 0 : sProp 𝕄) = bigSep (Finset.range 50) fun g => oLoc d ↦[blk (50 * wid L + g)]{fullShare} f0 :=
  bigSep_congr fun _ _ => blkAt_old d L xs f0 (Nat.zero_le _)
/-- and once all are. -/
theorem outs_fifty (d : Dev nD) (L : grid0.Coords) (xs : S204800.Idx → BitVec 32) (f0 : S200000x1024.Idx → F .f32) :
    (outs d L xs f0 50 : sProp 𝕄) = bigSep (Finset.range 50) fun g => oLoc d ↦[blk (50 * wid L + g)]{fullShare} filled xs :=
  bigSep_congr fun _ hg => blkAt_filled d L xs f0 (Finset.mem_range.mp hg)

/-! ## The shares of the list of classes -/

/-- SparseCore `c`'s share of the list of classes, and tile `s`'s share of that. -/
def coreShare (c : Fin 2) : PosShare TreeShare := Transfers.dealOf fullShare Finset.univ c
def tileShare (c : Fin 2) (s : Fin 16) : PosShare TreeShare := Transfers.dealOf (coreShare c) Finset.univ s

theorem iPts_cores (d : Dev nD) (xs : S204800.Idx → BitVec 32) :
    (iLoc d ↦{fullShare} xs : sProp 𝕄) = bigSep Finset.univ fun c : Fin 2 => iLoc d ↦{coreShare c} xs :=
  Transfers.pointsTo_deal Finset.univ ⟨0, Finset.mem_univ _⟩ fullShare
theorem iPts_tiles (d : Dev nD) (c : Fin 2) (xs : S204800.Idx → BitVec 32) :
    (iLoc d ↦{coreShare c} xs : sProp 𝕄) = bigSep Finset.univ fun s : Fin 16 => iLoc d ↦{tileShare c s} xs :=
  Transfers.pointsTo_deal Finset.univ ⟨0, Finset.mem_univ _⟩ (coreShare c)

/-! ## What is handed over -/

variable (xs : Dev nD → S204800.Idx → BitVec 32) (f0 : Dev nD → S200000x1024.Idx → F .f32)

/-- What tile `s` of SparseCore `c` holds with `n` of its blocks filled: its share of the classes and its blocks. -/
def tilePay (d : Dev nD) (c : Fin 2) (s : Fin 16) (n : Nat) : sProp 𝕄 :=
  iprop((iLoc d ↦{tileShare c s} xs d) ∗ outs d (coordsV c s) (xs d) (f0 d) n)

/-- What SparseCore `c` holds with `n` blocks of each tile filled. -/
def corePay (d : Dev nD) (c : Fin 2) (n : Nat) : sProp 𝕄 :=
  iprop((iLoc d ↦{coreShare c} xs d) ∗ bigSep Finset.univ fun s : Fin 16 => outs d (coordsV c s) (xs d) (f0 d) n)

theorem corePay_eq (d : Dev nD) (c : Fin 2) (n : Nat) :
    (corePay xs f0 d c n : sProp 𝕄) = bigSep Finset.univ fun s : Fin 16 => tilePay xs f0 d c s n := by
  unfold corePay tilePay
  rw [bigSep_sep', iPts_tiles]

instance outs_storable (d : Dev nD) (L : grid0.Coords) (x : S204800.Idx → BitVec 32) (f : S200000x1024.Idx → F .f32) (n : Nat) :
    BI.Storable (upEmb : UEmb _ 𝕄) (outs d L x f n) := by
  unfold outs blkAt; infer_instance
instance tilePay_storable (d : Dev nD) (c : Fin 2) (s : Fin 16) (n : Nat) : BI.Storable (upEmb : UEmb _ 𝕄) (tilePay xs f0 d c s n) := by
  unfold tilePay; infer_instance
instance corePay_storable (d : Dev nD) (c : Fin 2) (n : Nat) : BI.Storable (upEmb : UEmb _ 𝕄) (corePay xs f0 d c n) := by
  unfold corePay
  have : ∀ s : Fin 16, BI.Storable (upEmb : UEmb _ 𝕄) (outs d (coordsV c s) (xs d) (f0 d) n) := fun s => outs_storable ..
  infer_instance

theorem nCore_zero : (K (F := F)).nCore 0 = 2 := rfl
theorem nSub_zero : (K (F := F)).nSub 0 = 16 := rfl

/-- The call's payloads: to each core and tile its shares, unfilled; back from each, filled. -/
def P : (K (F := F)).Pay (nD := nD) (Val := Elt F) (Name := ℕ) (U := UU) where
  st := fun q d c => match q with | 0 => corePay xs f0 d (Fin.cast nCore_zero c) 0
  dn := fun q d c => match q with | 0 => corePay xs f0 d (Fin.cast nCore_zero c) 50
  go := fun q d c i => match q with | 0 => tilePay xs f0 d (Fin.cast nCore_zero c) (Fin.cast nSub_zero i) 0
  td := fun q d c i => match q with | 0 => tilePay xs f0 d (Fin.cast nCore_zero c) (Fin.cast nSub_zero i) 50
  x := fun _ _ => iprop(emp)

instance P_storable : (P (F := F) xs f0).IsStorable where
  st q d c := match q with
    | 0 => (inferInstance : BI.Storable (upEmb : UEmb _ 𝕄) (corePay xs f0 d (Fin.cast nCore_zero c) 0))
  dn q d c := match q with
    | 0 => (inferInstance : BI.Storable (upEmb : UEmb _ 𝕄) (corePay xs f0 d (Fin.cast nCore_zero c) 50))
  go q d c i := match q with
    | 0 => (inferInstance : BI.Storable (upEmb : UEmb _ 𝕄) (tilePay xs f0 d (Fin.cast nCore_zero c) (Fin.cast nSub_zero i) 0))
  td q d c i := match q with
    | 0 => (inferInstance : BI.Storable (upEmb : UEmb _ 𝕄) (tilePay xs f0 d (Fin.cast nCore_zero c) (Fin.cast nSub_zero i) 50))

/-! ## The launch theorem's obligations -/

theorem defs₀_vector (c : Fin τ.nSC) (s : Fin τ.nSub) :
    defs₀ (F := F) (.scVector c s) 0 ()
      = SparseCore.onTile hcore0 hsub0 (fun c s => cc0_k (coordsV c s)
          iW (Memref.isWhole_whole _) oW (Memref.isWhole_whole _) aW (Memref.isWhole_whole _) bW (Memref.isWhole_whole _)
          hW (Memref.isWhole_whole _) cc0_scratch3 cc0_scratch4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, from its payload to its payload back. -/
theorem tileObl (hxs : ∀ d j, (xs d j).toNat < 1000) : (K (F := F)).TileObl (D (F := F)) 𝒱 (P xs f0) v₀ 0 := by
  intro d c i O W hO _ _
  simp only [show (P xs f0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (tileShare (Fin.cast nCore_zero c) (Fin.cast nSub_zero i)) (xs d) (f0 d) (hxs d) O W hO).trans
    (wp_mono frame _ _ fun _ => obl_post)

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's payload is its tiles' payloads, both ways. -/
theorem vecSplit : (K (F := F)).VecSplit' (P xs f0) 0 := by
  intro d c
  show corePay xs f0 d (Fin.cast nCore_zero c) 0 ⊢ |={Set.univ}=> iprop(
      (bigSep Finset.univ fun i : Fin ((K (F := F)).nSub 0) => tilePay xs f0 d (Fin.cast nCore_zero c) (Fin.cast nSub_zero i) 0)
      ∗ ((bigSep Finset.univ fun i : Fin ((K (F := F)).nSub 0) => tilePay xs f0 d (Fin.cast nCore_zero c) (Fin.cast nSub_zero i) 50)
          -∗ corePay xs f0 d (Fin.cast nCore_zero c) 50))
  rw [bigSep_tiles (F := F) (fun i => tilePay xs f0 d (Fin.cast nCore_zero c) i 0),
    bigSep_tiles (F := F) (fun i => tilePay xs f0 d (Fin.cast nCore_zero c) i 50), corePay_eq, corePay_eq]
  iintro H; imodintro
  isplitl [H]; · iexact H
  iintro H; iexact H

/-- What the call takes: the list of classes and the array to fill, whole; -/
theorem st_eq (d : Dev nD) : (bigSep Finset.univ fun c : Fin ((K (F := F)).nCore 0) => (P xs f0).st 0 d c)
    = (iprop((iLoc d ↦{fullShare} xs d) ∗ (oLoc d ↦{fullShare} f0 d)) : sProp 𝕄) := by
  refine (bigSep_cores (F := F) fun c => corePay xs f0 d c 0).trans ?_
  unfold corePay
  rw [bigSep_sep', ← iPts_cores, oPts_blocks]
  simp only [outs_zero]
/-- and what it hands back: the same, the array filled. -/
theorem dn_eq (d : Dev nD) : (bigSep Finset.univ fun c : Fin ((K (F := F)).nCore 0) => (P xs f0).dn 0 d c)
    = (iprop((iLoc d ↦{fullShare} xs d) ∗ (oLoc d ↦{fullShare} filled (xs d))) : sProp 𝕄) := by
  refine (bigSep_cores (F := F) fun c => corePay xs f0 d c 50).trans ?_
  unfold corePay
  rw [bigSep_sep', ← iPts_cores, oPts_blocks]
  simp only [outs_fifty]

/-! ## The launch element: the handshakes' rounds -/

def u₀ : UU := (initOf (K (F := F)).hsCells (K (F := F)).hsToks, 1)

omit [FloatOps F] in
theorem bigSep_empty_props {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P xs f0).x q thr) := by
  unfold u₀
  iintro Hu
  ihave H := (ownU_pair _ _) $$ Hu
  icases H with ⟨HH, -⟩
  imodintro
  isplitl [HH]; · iexact HH
  isplitr; · rw [bigSep_empty_props]; iempintro
  unfold P; dsimp only
  rw [show (bigSep Finset.univ fun _ : Thread nD τ => bigSep Finset.univ fun _ : Fin 1 => (iprop(emp) : sProp 𝕄)) = iprop(emp) from by
    rw [bigSep_congr fun _ _ => bigSep_empty_props _, bigSep_empty_props]]
  iempintro

end Cert.Proof.KernelIdealRun

end
-- ==== Proof.KernelIdealMain.lean ====
/-
  @main: the array of classes transposed and laid out as a list, the call that fills the array, and
  the filled array reshaped and transposed into the result.  Each element of the result is read off
  the array of classes.
-/
module

public import proofs.«01_k».proof.Proof.KernelIdealLaunch
public import Idealize.ShloMosaic.Lib.Pipeline.Value
public import Idealize.ShloMosaic.Lib.ValueIdxCore

@[expose] public section

noncomputable section

namespace Cert.Proof.KernelIdealRun

open Cert.KernelIdeal Cert.KernelIdeal.Gen Cert.Proof.OneHot

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.ValueIdx
open Idealize.ShloMosaic.Tactic

variable {F : FTy → Type} [FloatOps F]

local notation "𝕄" => MT nD τ sig (HIx 1) (Elt F) ℕ UU ℕ

/-! ## The arrays and the operations around the call -/

abbrev a' : DevRef τ sig := Proc.devRef .tc (main_arg0 : Ref sig .tc)
abbrev t' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev s' : DevRef τ sig := Proc.devRef .tc (main_v3 : Ref sig .tc)
abbrev r' : DevRef τ sig := Proc.devRef .tc (main_v4 : Ref sig .tc)

abbrev aLoc (d : Dev nD) : Loc nD τ sig := (SparseCore.T d).loc main_arg0
abbrev rLoc (d : Dev nD) : Loc nD τ sig := (SparseCore.T d).loc main_v4

/-- Before the call: the classes transposed, and laid out as a list. -/
abbrev opT1 : HloOp τ sig (Elt F) :=
  StableHlo.unary main_arg0 main_v0 ((transpose S200x1024 [1, 0] · transposes_S1024x200_S200x1024_1_0) : (⟨S1024x200, .i32⟩ : BufTy).Contents (Elt F) → (⟨S200x1024, .i32⟩ : BufTy).Contents (Elt F))
abbrev opR1 : HloOp τ sig (Elt F) := StableHlo.reshape main_v0 main_v1 (rfl : (.i32 : EltTy) = .i32) shapeCasts_S200x1024_S204800
/-- After it: the filled array in three axes, and those transposed. -/
abbrev opR2 : HloOp τ sig (Elt F) := StableHlo.reshape main_v2 main_v3 (rfl : (.f32 : EltTy) = .f32) shapeCasts_S200000x1024_S200x1000x1024
abbrev opT2 : HloOp τ sig (Elt F) :=
  StableHlo.unary main_v3 main_v4 ((transpose S1024x200x1000 [2, 0, 1] · transposes_S200x1000x1024_S1024x200x1000_2_0_1) : (⟨S200x1000x1024, .f32⟩ : BufTy).Contents (Elt F) → (⟨S1024x200x1000, .f32⟩ : BufTy).Contents (Elt F))

/-- The TensorCore's arrays. -/
abbrev S6 : Finset (DevRef τ sig) := {a', t', i', o', s', r'}

theorem held_S6 (d : Dev nD) (W : Valuation τ sig (Elt F)) :
    (held (T d) S6 W : sProp 𝕄) = iprop((aLoc d ↦{fullShare} W a') ∗ ((SparseCore.T d).loc main_v0 ↦{fullShare} W t') ∗ (iLoc d ↦{fullShare} W i')
      ∗ (oLoc d ↦{fullShare} W o') ∗ ((SparseCore.T d).loc main_v3 ↦{fullShare} W s') ∗ (rLoc d ↦{fullShare} W r')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ ((SparseCore.T d).loc main_v0 ↦{fullShare} W main_v0)
      ∗ (iLoc d ↦{fullShare} W main_v1) ∗ (oLoc d ↦{fullShare} W main_v2) ∗ ((SparseCore.T d).loc main_v3 ↦{fullShare} W main_v3)
      ∗ (rLoc d ↦{fullShare} W main_v4)) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]

variable (m : (ℓ : Loc nD τ sig) → Buf (Elt F) ℓ)

/-- The arrays' contents at launch, -/
def V0 (d : Dev nD) : Valuation τ sig (Elt F) := fun b => m (d, b)
/-- before the call, -/
def V1 (d : Dev nD) : Valuation τ sig (Elt F) := (opR1 (F := F)).result ((opT1 (F := F)).result (V0 m d))
/-- the list of classes the call reads and the array it fills, -/
def classes (d : Dev nD) : S204800.Idx → BitVec 32 := V1 m d i'
def unfilled (d : Dev nD) : S200000x1024.Idx → F .f32 := V1 m d o'
/-- after the call, -/
def V2 (d : Dev nD) : Valuation τ sig (Elt F) := Function.update (V1 m d) o' (filled (classes m d))
/-- and at the end. -/
def V3 (d : Dev nD) : Valuation τ sig (Elt F) := (opT2 (F := F)).result ((opR2 (F := F)).result (V2 m d))

theorem unscoped_held (d : Dev nD) : (unscopedBufs d (fun b => m ((SparseCore.T d).loc b)) : sProp 𝕄) = held (T d) S6 (V0 m d) := by
  rw [unscopedBufs_eq, held_S6]; rfl

/-! ## The result, element by element -/

/-- The list of classes runs through the columns of the array of classes. -/
theorem classes_apply (d : Dev nD) (j : S204800.Idx) (k : S1024x200.Idx) (hk : (j 0).val = (k 1).val * 1024 + (k 0).val) :
    classes m d j = (m (aLoc d) : S1024x200.Idx → BitVec 32) k := by
  have e : classes m d = fun j => shapeCast S204800 (transpose S200x1024 [1, 0] (m (aLoc d) : S1024x200.Idx → BitVec 32) transposes_S1024x200_S200x1024_1_0)
      shapeCasts_S200x1024_S204800 j := by
    unfold classes V1
    rw [StableHlo.reshape_result', StableHlo.unary_result']
    rfl
  rw [e]
  dsimp only
  rw [shapeCast_apply _ _ j (ix2 (k 1) (k 0) : S200x1024.Idx) ?_, transpose_apply _ _ _ _ k ?_]
  · intro b
    fin_cases b <;> rfl
  · rw [Shape.rowMajor_val_two, Shape.rowMajor_val_one, hk]
    rfl

/-- The one-hot rows of an array of classes. -/
def hotRows (x : S1024x200.Idx → BitVec 32) : S1024x200x1000.Idx → F .f32 := fun j =>
  if (x (ix2 (j 0) (j 1))).toNat = (j 2).val then one else zero

/-- The result is the one-hot rows of the classes. -/
theorem V3_result (d : Dev nD) : V3 m d r' = hotRows (F := F) (m (aLoc d) : S1024x200.Idx → BitVec 32) := by
  have e : V3 m d r' = transpose S1024x200x1000 [2, 0, 1]
      (fun i => shapeCast S200x1000x1024 (filled (F := F) (classes m d)) shapeCasts_S200000x1024_S200x1000x1024 i) transposes_S200x1000x1024_S1024x200x1000_2_0_1 := by
    unfold V3
    rw [StableHlo.unary_result', StableHlo.reshape_result']
    unfold V2
    rw [Function.update_self]
    rfl
  rw [e]
  funext j
  have h0 : (j 0).val < 1024 := (j 0).isLt
  have h1 : (j 1).val < 200 := (j 1).isLt
  have h2 : (j 2).val < 1000 := (j 2).isLt
  rw [transpose_apply _ _ _ j (ix3 (j 1) (j 2) (j 0) : S200x1000x1024.Idx) (by intro b; fin_cases b <;> rfl),
    shapeCast_apply _ _ _ (ix2 (⟨(j 1).val * 1000 + (j 2).val, by omega⟩ : Fin 200000) (j 0) : S200000x1024.Idx) (by
      rw [Shape.rowMajor_val_two, Shape.rowMajor_val_three]; rfl)]
  unfold filled hotRows
  rw [classes_apply m d _ (ix2 (j 0) (j 1) : S1024x200.Idx) (by
    show ((j 1).val * 1000 + (j 2).val) / 1000 * 1024 + (j 0).val = (j 1).val * 1024 + (j 0).val
    omega)]
  have e2 : ((ix2 (⟨(j 1).val * 1000 + (j 2).val, by omega⟩ : Fin 200000) (j 0) : S200000x1024.Idx) 0).val % 1000 = (j 2).val := by
    show ((j 1).val * 1000 + (j 2).val) % 1000 = (j 2).val
    omega
  rw [e2]

/-- The array of classes is nowhere written. -/
theorem V3_arg (d : Dev nD) : V3 m d a' = m (aLoc d) := by
  unfold V3
  rw [StableHlo.unary_result_ne (h := by decide), StableHlo.reshape_result_ne (h := by decide)]
  unfold V2
  rw [Function.update_of_ne (show a' ≠ o' by decide)]
  unfold V1
  rw [StableHlo.reshape_result_ne (h := by decide), StableHlo.unary_result_ne (h := by decide)]
  rfl

/-- Words below 1000 in the array of classes are words below 1000 in the list. -/
theorem classes_lt (hpre : ∀ d k, ((m (aLoc d) : S1024x200.Idx → BitVec 32) k).toNat < 1000) (d : Dev nD) (j : S204800.Idx) :
    (classes m d j).toNat < 1000 := by
  have h : (j 0).val < 204800 := (j 0).isLt
  rw [classes_apply m d j (ix2 (⟨(j 0).val % 1024, by omega⟩ : Fin 1024) (⟨(j 0).val / 1024, by omega⟩ : Fin 200) : S1024x200.Idx) (by
    show (j 0).val = (j 0).val / 1024 * 1024 + (j 0).val % 1024
    omega)]
  exact hpre d _

end Cert.Proof.KernelIdealRun

end
-- ==== Proof.KernelIdealRun.lean ====
/-
  The whole program's run: @main on the TensorCore, the SparseCores' tiles as the launch theorem runs
  them, and what memory holds at the end.
-/
module

public import proofs.«01_k».proof.Proof.KernelIdealMain

@[expose] public section

noncomputable section

namespace Cert.Proof.KernelIdealRun

open Cert.KernelIdeal Cert.KernelIdeal.Gen Cert.Proof.OneHot

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.ValueIdx
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

theorem hT1 : (opT1 (F := F)).bufs ⊆ S6 := show ({a', t'} : Finset (DevRef τ sig)) ⊆ S6 by decide
theorem hR1 : (opR1 (F := F)).bufs ⊆ S6 := show ({t', i'} : Finset (DevRef τ sig)) ⊆ S6 by decide
theorem hR2 : (opR2 (F := F)).bufs ⊆ S6 := show ({o', s'} : Finset (DevRef τ sig)) ⊆ S6 by decide
theorem hT2 : (opT2 (F := F)).bufs ⊆ S6 := show ({s', r'} : Finset (DevRef τ sig)) ⊆ S6 by decide

/-- The arrays after the call: those before it, the filled one apart. -/
theorem held_V2 (d : Dev nD) :
    (held (T d) S6 (V2 m d) : sProp 𝕄) = iprop((aLoc d ↦{fullShare} V1 m d a') ∗ ((SparseCore.T d).loc main_v0 ↦{fullShare} V1 m d t')
      ∗ (iLoc d ↦{fullShare} classes m d) ∗ (oLoc d ↦{fullShare} filled (classes m d))
      ∗ ((SparseCore.T d).loc main_v3 ↦{fullShare} V1 m d s') ∗ (rLoc d ↦{fullShare} V1 m d r')) := by
  rw [held_S6]
  unfold V2
  rw [Function.update_self, Function.update_of_ne (show a' ≠ o' by decide), Function.update_of_ne (show t' ≠ o' by decide),
    Function.update_of_ne (show i' ≠ o' by decide), Function.update_of_ne (show s' ≠ o' by decide), Function.update_of_ne (show r' ≠ o' by decide)]
  rfl

/-- What @main leaves: the array of classes as it was, and the result. -/
abbrev FIN (d : Dev nD) : sProp 𝕄 := iprop((aLoc d ↦{fullShare} V3 m d a') ∗ (rLoc d ↦{fullShare} V3 m d r'))

/-- @main on device `d`'s TensorCore: two operations, the call, two operations. -/
theorem hmain (κ : GSem nD τ sig → ℕ) (d : Dev nD) :
    iprop((K (F := F)).ctx EH (P (classes m) (unfilled m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT1) (S := S6) hT1 (V := V0 m d)) $$ [Hb Hheld]
  · isplitl [Hb] <;> iassumption
  iintro ⟨Hb, Hheld⟩
  rw [wp_ret]; imodintro
  iapply (wp_hlo_within 𝒱 (SparseCore.T d) none Set.univ (op := opR1) (S := S6) hR1 (V := (opT1 (F := F)).result (V0 m d))) $$ [Hb Hheld]
  · isplitl [Hb] <;> iassumption
  iintro ⟨Hb, Hheld⟩
  rw [wp_ret]; imodintro
  ihave Hh := (Entails.of_eq (show (held (T d) S6 ((opR1 (F := F)).result ((opT1 (F := F)).result (V0 m d))) : sProp 𝕄) = _ from held_S6 (F := F) d (V1 m d))) $$ Hheld
  icases Hh with ⟨Ha, Ht, Hi, Ho, Hs, Hr⟩
  iapply ((K (F := F)).wp_run (D (F := F)) 𝒱 (EH := EH) (P := P (classes m) (unfilled m)) κ d 0) $$ [Hst Ha Ht Hi Ho Hs Hr Hb Hts]
  isplitr; · iexact Hctx
  isplitl [Hst]; · iexact Hst
  isplitl [Hi Ho]
  · rw [st_eq]
    isplitl [Hi]; · iexact Hi
    iexact Ho
  iintro ⟨Hst, Hdn⟩
  ihave Hdn' := (Entails.of_eq (dn_eq (classes m) (unfilled m) d)) $$ Hdn
  icases Hdn' with ⟨Hi, Ho⟩
  iapply (wp_hlo_within 𝒱 (SparseCore.T d) none Set.univ (op := opR2) (S := S6) hR2 (V := V2 m d)) $$ [Hb Ha Ht Hi Ho Hs Hr]
  · isplitl [Hb]; · iexact Hb
    rw [held_V2]
    isplitl [Ha]; · iexact Ha
    isplitl [Ht]; · iexact Ht
    isplitl [Hi]; · iexact Hi
    isplitl [Ho]; · iexact Ho
    isplitl [Hs]; · iexact Hs
    iexact Hr
  iintro ⟨Hb, Hheld⟩
  rw [wp_ret]; imodintro
  iapply (wp_hlo_within 𝒱 (SparseCore.T d) none Set.univ (op := opT2) (S := S6) hT2 (V := (opR2 (F := F)).result (V2 m d))) $$ [Hb Hheld]
  · isplitl [Hb] <;> iassumption
  iintro ⟨Hb, Hheld⟩
  ihave Hh := (Entails.of_eq (show (held (T d) S6 ((opT2 (F := F)).result ((opR2 (F := F)).result (V2 m d))) : sProp 𝕄) = _ from held_S6 (F := F) d (V3 m d))) $$ Hheld
  icases Hh with ⟨Ha, -, -, -, -, Hr⟩
  rw [wp_ret]; imodintro; imodintro
  isplitl [Hst]; · iexact Hst
  isplitr [Hb Hts]
  · isplitl [Ha] <;> iassumption
  isplitl [Hb] <;> iassumption

/-- What the final memory holds on device `d`. -/
def fq (d : Dev nD) (s : Phys nD τ sig (Elt F)) : Prop :=
  s.mem.mem (aLoc d) = m (aLoc d) ∧ s.mem.mem (rLoc d) = hotRows (F := F) (m (aLoc d) : S1024x200.Idx → BitVec 32)

theorem hfin (d : Dev nD) (s : Phys nD τ sig (Elt F)) : iprop(FIN m d ∗ SI s) ⊢ (⌜fq m d s⌝ : sProp 𝕄) := by
  have one_array (ℓ : Loc nD τ sig) (f : Buf (Elt F) ℓ) : iprop((ℓ ↦{fullShare} f) ∗ SI s) ⊢ (⌜s.mem.mem ℓ = f⌝ : sProp 𝕄) := by
    iintro ⟨Hx, HSI⟩
    ihave H := (SI_pointsTo_agree (st := s) (ℓ := ℓ) (I := Finset.univ) (q := fullShare) (f := f)) $$ [HSI Hx]
    · isplitl [HSI] <;> iassumption
    icases H with %hx
    ipureintro; exact funext fun i => hx i (Finset.mem_univ i)
  have arg : iprop(FIN m d ∗ SI s) ⊢ (⌜s.mem.mem (aLoc d) = V3 m d a'⌝ : sProp 𝕄) := by
    refine BIBase.Entails.trans ?_ (one_array (aLoc d) (V3 m d a'))
    iintro ⟨⟨Ha, -⟩, HSI⟩
    isplitl [Ha] <;> iassumption
  have res : iprop(FIN m d ∗ SI s) ⊢ (⌜s.mem.mem (rLoc d) = V3 m d r'⌝ : sProp 𝕄) := by
    refine BIBase.Entails.trans ?_ (one_array (rLoc d) (V3 m d r'))
    iintro ⟨⟨-, Hr⟩, HSI⟩
    isplitl [Hr] <;> iassumption
  refine (BIClass.and_intro arg res).trans ?_
  iintro ⟨%ha, %hr⟩
  ipureintro
  exact ⟨ha.trans (V3_arg m d), hr.trans (V3_result m d)⟩

/-- The program's postcondition: the array of classes unchanged, the result its one-hot rows, every semaphore at zero. -/
def QC : PUnit × MemSt nD τ sig (Elt F) → Prop := fun r =>
  (∀ c : Dev nD, r.2.mem (aLoc c) = m (aLoc c) ∧ r.2.mem (rLoc c) = hotRows (F := F) (m (aLoc c) : S1024x200.Idx → BitVec 32)) ∧ r.2.sem = fun _ => 0

/-- Every weakly fair run, from a memory whose classes are all below 1000, ends as `QC` says. -/
theorem run_main [∀ e, Nonempty (Elt F e)] (hpre : ∀ d k, ((m (aLoc d) : S1024x200.Idx → BitVec 32) k).toNat < 1000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (classes m) (unfilled m)) (A := ∅) facts v₀
    (fun q hq => match q with | 0 => nomatch hq)
    (fun q _ => match q with | 0 => tileObl (classes m) (unfilled m) (classes_lt m hpre))
    (fun q _ => match q with | 0 => SparseCore.Cfg.VecSplit.of_plain (vecSplit (classes m) (unfilled m)))
    m ρ main (fun _ => iprop(emp)) (FIN m) (u₀ (F := F)) (sep_elim_left.trans (hu₀ (classes m) (unfilled m))) (hmain m ρ) (fq m) (hfin m) (QC m)
    (fun _ h hz => ⟨h, hz⟩)

end Cert.Proof.KernelIdealRun

end
-- ==== Proof.ReferenceRows.lean ====
/-
  What the reference computes: ones scattered into an array of zeros, one for each place of the array
  of classes.  Element (b, s, c) of the result is one when the class at (b, s) is c, and zero elsewhere.
-/
module

public import proofs.«01_k».proof.Defs
public import Idealize.ShloMosaic.Lib.Pipeline.Value
public import Idealize.ShloMosaic.Lib.ValueIdxCore
public import Idealize.ShloMosaic.Lib.Routing.OpsSet
public import proofs.«01_k».proof.Proof.Gen.ReferenceIdeal

@[expose] public section

noncomputable section

namespace Cert.Proof.ReferenceRows

open Cert.ReferenceIdeal Cert.ReferenceIdeal.Gen
open Idealize.ShloMosaic Idealize.ShloMosaic.ValueIdx

variable {F : FTy → Type} [FloatOps F]

/-- The index vectors of the scatter: three planes of words, side by side on the last axis. -/
abbrev planes (p : Fin 3 → S1024x200x1.Idx → BitVec 32) : S1024x200x3.Idx → BitVec 32 :=
  concatenate S1024x200x3 2 [⟨S1024x200x1, p 0⟩, ⟨S1024x200x1, p 1⟩, ⟨S1024x200x1, p 2⟩] concatenates_S1024x200x1_S1024x200x1_S1024x200x1_S1024x200x3_d2

/-- Word `a` of an index vector is plane `a`'s. -/
theorem planes_apply (p : Fin 3 → S1024x200x1.Idx → BitVec 32) (b : Fin 1024) (s : Fin 200) (a : Fin 3) :
    planes p (ix3 b s a : S1024x200x3.Idx) = p a (ix3 b s 0 : S1024x200x1.Idx) := by
  have off (a : Fin 3) (c : Fin S1024x200x1.rank) (h : c.cast (rfl : S1024x200x1.rank = S1024x200x3.rank) ≠ 2) :
      ((ix3 b s 0 : S1024x200x1.Idx) c).val = ((ix3 b s a : S1024x200x3.Idx) (c.cast rfl)).val := by
    fin_cases c <;> first | rfl | exact absurd rfl h
  have piece := fun k hk x hx pre hp a ha => concatenate_apply_piece (t := S1024x200x3) 2
    [⟨S1024x200x1, p 0⟩, ⟨S1024x200x1, p 1⟩, ⟨S1024x200x1, p 2⟩] concatenates_S1024x200x1_S1024x200x1_S1024x200x1_S1024x200x3_d2
    (ix3 b s a) k hk S1024x200x1 x hx rfl pre hp (ix3 b s 0) (off a) ha
  match a with
  | 0 => exact piece 0 (by simp) (p 0) rfl 0 rfl 0 rfl
  | 1 => exact piece 1 (by simp) (p 1) rfl 1 rfl 1 rfl
  | 2 => exact piece 2 (by simp) (p 2) rfl 2 rfl 2 rfl

/-- The scatter's dimensions: each update's three words name the element it goes to. -/
abbrev sd := scatter_S1024x200x1000_S1024x200x3_S1024x200_n_012_012_2

theorem sd_window (k : S1024x200.Idx) (a : Fin 3) : sd.window k a = 0 := by
  unfold ScatterDims.window
  fin_cases a <;> exact dif_neg (by decide)

/-- The start of update `k` on axis `a` is word `a` of its index vector. -/
theorem sd_start (k : S1024x200.Idx) (idx : S1024x200x3.Idx → BitVec 32) (a : Fin 3) :
    sd.start k idx a = (idx (ix3 (k 0) (k 1) a : S1024x200x3.Idx)).toInt := by
  unfold ScatterDims.start
  rw [dif_pos (by fin_cases a <;> decide)]
  refine congrArg (fun i => (idx i).toInt) (funext fun b => Fin.ext ?_)
  fin_cases a <;> fin_cases b <;> rfl

/-- Update `k` lands at `j` exactly when its three words are `j`'s coordinates. -/
theorem lands_iff (k : S1024x200.Idx) (idx : S1024x200x3.Idx → BitVec 32) (j : S1024x200x1000.Idx) :
    sd.resultIdx? k idx = some j ↔ ∀ a : Fin 3, (idx (ix3 (k 0) (k 1) a : S1024x200x3.Idx)).toInt = ((j a).val : Int) := by
  rw [Routing.resultIdx?_eq_some]
  refine forall_congr' fun a => ?_
  rw [sd_start, sd_window, Nat.cast_zero, add_zero]

/-! ## The three index planes -/

/-- A word below 2³¹ is not negative, so the choice between it and its wrapped-around value takes it as it is. -/
theorem select_nonneg {s : Shape} (x y z : s.Idx → BitVec 32) (k : s.Idx) (hz : z k = 0#32) (hx : (x k).toNat < 2147483648) :
    select (cmpi .slt x z) y x k = x k := by
  have e : IntOp.cmpi .slt (x k) 0#32 ≠ 1#1 := by
    intro h
    have holds (p : Bool) : (BitVec.ofBool p = 1#1) ↔ p = true := by cases p <;> decide
    simp only [IntOp.cmpi, holds, BitVec.slt_eq_decide, decide_eq_true_eq, BitVec.toInt_eq_toNat_cond, BitVec.toNat_ofNat] at h
    omega
  unfold select cmpi Scalar.select
  rw [hz]
  exact if_neg e

/-- A word below 2³¹ has the same value with and without its sign. -/
theorem toInt_small (v : BitVec 32) (h : v.toNat < 2147483648) : v.toInt = (v.toNat : Int) := by
  rw [BitVec.toInt_eq_toNat_cond, if_pos (by omega)]

/-- The row numbers, -/
def rowPlane : S1024x200x1.Idx → BitVec 32 :=
  broadcastInDim S1024x200x1 ![0, 1] bcast_S1024x200_S1024x200x1_0_1 (broadcastInDim S1024x200 ![0, 1] bcast_S1024x1_S1024x200_0_1
    (select (cmpi .slt (broadcastInDim S1024x1 ![0] bcast_S1024_S1024x1_0 (iotaInDim S1024 32 0)) (broadcastInDim S1024x1 ![] bcast_S_S1024x1 (constantI S_ 32 0#32)))
      (addi (broadcastInDim S1024x1 ![0] bcast_S1024_S1024x1_0 (iotaInDim S1024 32 0)) (broadcastInDim S1024x1 ![] bcast_S_S1024x1 (constantI S_ 32 1024#32)))
      (broadcastInDim S1024x1 ![0] bcast_S1024_S1024x1_0 (iotaInDim S1024 32 0))))
/-- the column numbers, -/
def colPlane : S1024x200x1.Idx → BitVec 32 :=
  broadcastInDim S1024x200x1 ![0, 1] bcast_S1024x200_S1024x200x1_0_1 (broadcastInDim S1024x200 ![0, 1] bcast_S1x200_S1024x200_0_1
    (select (cmpi .slt (broadcastInDim S1x200 ![1] bcast_S200_S1x200_1 (iotaInDim S200 32 0)) (broadcastInDim S1x200 ![] bcast_S_S1x200 (constantI S_ 32 0#32)))
      (addi (broadcastInDim S1x200 ![1] bcast_S200_S1x200_1 (iotaInDim S200 32 0)) (broadcastInDim S1x200 ![] bcast_S_S1x200 (constantI S_ 32 200#32)))
      (broadcastInDim S1x200 ![1] bcast_S200_S1x200_1 (iotaInDim S200 32 0))))
/-- and the classes. -/
def classPlane (x : S1024x200.Idx → BitVec 32) : S1024x200x1.Idx → BitVec 32 :=
  broadcastInDim S1024x200x1 ![0, 1] bcast_S1024x200_S1024x200x1_0_1
    (select (cmpi .slt x (broadcastInDim S1024x200 ![] bcast_S_S1024x200 (constantI S_ 32 0#32)))
      (addi x (broadcastInDim S1024x200 ![] bcast_S_S1024x200 (constantI S_ 32 1000#32))) x)

theorem plane_apply (y : S1024x200.Idx → BitVec 32) (b : Fin 1024) (s : Fin 200) :
    broadcastInDim S1024x200x1 ![0, 1] bcast_S1024x200_S1024x200x1_0_1 y (ix3 b s 0 : S1024x200x1.Idx) = y (ix2 b s : S1024x200.Idx) :=
  broadcastInDim_apply _ _ _ _ _ (by intro a; fin_cases a <;> rfl)

theorem rowPlane_apply (b : Fin 1024) (s : Fin 200) : (rowPlane (ix3 b s 0 : S1024x200x1.Idx)).toInt = (b.val : Int) := by
  have hb : b.val < 1024 := b.isLt
  have e : (broadcastInDim S1024x1 ![0] bcast_S1024_S1024x1_0 (iotaInDim S1024 32 0)) (ix2 b 0 : S1024x1.Idx) = BitVec.ofNat 32 b.val := by
    rw [broadcastInDim_apply _ _ _ _ (ix1 b : S1024.Idx) (by intro a; fin_cases a; rfl)]
    rfl
  have small : (BitVec.ofNat 32 b.val).toNat = b.val := by rw [BitVec.toNat_ofNat]; omega
  unfold rowPlane
  rw [plane_apply, broadcastInDim_apply _ _ _ _ (ix2 b 0 : S1024x1.Idx) (by intro a; fin_cases a <;> rfl),
    select_nonneg _ _ _ _ rfl (by rw [e, small]; omega), e, toInt_small _ (by rw [small]; omega), small]

theorem colPlane_apply (b : Fin 1024) (s : Fin 200) : (colPlane (ix3 b s 0 : S1024x200x1.Idx)).toInt = (s.val : Int) := by
  have hs : s.val < 200 := s.isLt
  have e : (broadcastInDim S1x200 ![1] bcast_S200_S1x200_1 (iotaInDim S200 32 0)) (ix2 0 s : S1x200.Idx) = BitVec.ofNat 32 s.val := by
    rw [broadcastInDim_apply _ _ _ _ (ix1 s : S200.Idx) (by intro a; fin_cases a; rfl)]
    rfl
  have small : (BitVec.ofNat 32 s.val).toNat = s.val := by rw [BitVec.toNat_ofNat]; omega
  unfold colPlane
  rw [plane_apply, broadcastInDim_apply _ _ _ _ (ix2 0 s : S1x200.Idx) (by intro a; fin_cases a <;> rfl),
    select_nonneg _ _ _ _ rfl (by rw [e, small]; omega), e, toInt_small _ (by rw [small]; omega), small]

theorem classPlane_apply (x : S1024x200.Idx → BitVec 32) (hx : ∀ k, (x k).toNat < 1000) (b : Fin 1024) (s : Fin 200) :
    (classPlane x (ix3 b s 0 : S1024x200x1.Idx)).toInt = ((x (ix2 b s : S1024x200.Idx)).toNat : Int) := by
  have h := hx (ix2 b s)
  unfold classPlane
  rw [plane_apply, select_nonneg _ _ _ _ rfl (by omega), toInt_small _ (by omega)]

/-! ## The reference's result -/

/-- Update `k` lands at `j` exactly when it is the update of `j`'s place and its class is `j`'s last coordinate. -/
theorem lands_class (p : Fin 3 → S1024x200x1.Idx → BitVec 32) (x : S1024x200.Idx → BitVec 32)
    (h0 : ∀ b s, (p 0 (ix3 b s 0 : S1024x200x1.Idx)).toInt = (b.val : Int)) (h1 : ∀ b s, (p 1 (ix3 b s 0 : S1024x200x1.Idx)).toInt = (s.val : Int))
    (h2 : ∀ b s, (p 2 (ix3 b s 0 : S1024x200x1.Idx)).toInt = ((x (ix2 b s : S1024x200.Idx)).toNat : Int))
    (k : S1024x200.Idx) (j : S1024x200x1000.Idx) :
    sd.resultIdx? k (planes p) = some j ↔ (k 0).val = (j 0).val ∧ (k 1).val = (j 1).val ∧ (x k).toNat = (j 2).val := by
  have ek : x (ix2 (k 0) (k 1) : S1024x200.Idx) = x k := congrArg x (eq_ix2 k).symm
  have e0 := h0 (k 0) (k 1)
  have e1 := h1 (k 0) (k 1)
  have e2 := h2 (k 0) (k 1)
  rw [ek] at e2
  have at_ (a : Fin 3) := congrArg BitVec.toInt (planes_apply p (k 0) (k 1) a)
  rw [lands_iff]
  constructor
  · intro h
    have g0 := (at_ 0).symm.trans (h 0)
    have g1 := (at_ 1).symm.trans (h 1)
    have g2 := (at_ 2).symm.trans (h 2)
    exact ⟨by omega, by omega, by omega⟩
  · intro ⟨g0, g1, g2⟩ a
    refine (at_ a).trans ?_
    fin_cases a
    · exact e0.trans (congrArg Nat.cast g0)
    · exact e1.trans (congrArg Nat.cast g1)
    · exact e2.trans (congrArg Nat.cast g2)

/-- The array of the reference's result, as its operations compute it from the classes. -/
def scattered (x : S1024x200.Idx → BitVec 32) : S1024x200x1000.Idx → F .f32 :=
  Host.scatter sd (fun _ b => b) (broadcastInDim S1024x200x1000 ![] bcast_S_S1024x200x1000 (constant S_ .f32 0x00000000#32))
    (planes ![rowPlane, colPlane, classPlane x]) (broadcastInDim S1024x200 ![] bcast_S_S1024x200 (constant S_ .f32 0x3F800000#32))

/-- Its elements: one where the last coordinate is the place's class, zero elsewhere. -/
theorem scattered_apply (x : S1024x200.Idx → BitVec 32) (hx : ∀ k, (x k).toNat < 1000) (j : S1024x200x1000.Idx) :
    scattered (F := F) x j = if (x (ix2 (j 0) (j 1) : S1024x200.Idx)).toNat = (j 2).val
      then Scalar.ofBits .f32 0x3F800000#32 else Scalar.ofBits .f32 0x00000000#32 := by
  have hl (k : S1024x200.Idx) := lands_class ![rowPlane, colPlane, classPlane x] x rowPlane_apply colPlane_apply (classPlane_apply x hx) k j
  unfold scattered
  generalize planes ![rowPlane, colPlane, classPlane x] = idx at hl
  by_cases h : (x (ix2 (j 0) (j 1) : S1024x200.Idx)).toNat = (j 2).val
  · rw [if_pos h]
    exact Routing.scatter_set_hit sd _ idx _ j _ (fun _ _ => rfl) (ix2 (j 0) (j 1) : S1024x200.Idx) ((hl _).mpr ⟨rfl, rfl, h⟩)
  · rw [if_neg h]
    refine Routing.scatter_set_miss sd _ idx _ j fun k hk => h ?_
    obtain ⟨h0, h1, h2⟩ := (hl k).mp hk
    have ek : k = (ix2 (j 0) (j 1) : S1024x200.Idx) := funext fun a => Fin.ext (by fin_cases a; exacts [h0, h1])
    rw [← ek]
    exact h2

end Cert.Proof.ReferenceRows

end
-- ==== Proof.lean ====
/-
  The proof of `Cert.Claim`: the one-hot kernel and its reading over the extended reals run to the
  end, leave the array of classes as it was and every semaphore counter at zero; so does the
  reference; and over the extended reals the kernel's result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_classes
public import proofs.«01_k».proof.Proof.PreClasses
public import proofs.«01_k».proof.Proof.KernelRun
public import proofs.«01_k».proof.Proof.KernelIdealRun
public import proofs.«01_k».proof.Proof.ReferenceRows
public import Idealize.ShloMosaic.Adequacy
public import Idealize.ShloMosaic.Init

@[expose] public section

noncomputable section

namespace Cert.Proof

open Idealize.ShloMosaic Idealize.SL.Sem

/-- The kernel's frame: its run with the result dropped. -/
theorem frame_kernel : Cert.quiescent_Kernel := fun m g hpre =>
  (θ_run Cert.Kernel.defs _ _).mono (fun _ h => ⟨fun c => (h.1 c).1, h.2⟩)
    (KernelRun.run_main (F := Bits) m g fun d => PreClasses.classes_bounded (F := Bits) _ (hpre d))

/-- The frame of the kernel over the extended reals. -/
theorem frame_kernelIdeal : Cert.quiescent_KernelIdeal := fun m g hpre =>
  (θ_run Cert.KernelIdeal.defs _ _).mono (fun _ h => ⟨fun c => (h.1 c).1, h.2⟩)
    (KernelIdealRun.run_main (F := Ideal) m g fun d => PreClasses.classes_bounded (F := Ideal) _ (hpre d))

/-- The reference's frame: it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's result is the one-hot rows of its classes, when these are below 1000. -/
theorem reference_rows (x : Cert.KernelIdeal.S1024x200.Idx → BitVec 32) (hx : ∀ k, (x k).toNat < 1000) :
    ReferenceRows.scattered (F := Ideal) x = KernelIdealRun.hotRows (F := Ideal) x :=
  funext fun j => ReferenceRows.scattered_apply x hx j

/-- Over the extended reals the kernel's result is the reference's. -/
theorem values_equal : Cert.algebraic_KernelIdeal_ReferenceIdeal := by
  intro m g m' g' hpre hagree
  have hx := fun d => PreClasses.classes_bounded (F := Ideal) _ (hpre d)
  refine ⟨fun c => KernelIdealRun.hotRows (F := Ideal) (m (KernelIdealRun.aLoc c)),
    (θ_run Cert.KernelIdeal.defs _ _).mono (fun _ h c => ⟨(h.1 c).2, (h.1 c).1⟩) (KernelIdealRun.run_main (F := Ideal) m g hx),
    (θ_run Cert.ReferenceIdeal.defs _ _).mono (fun _ h c => ⟨(h c).1.trans ?_, (h c).2⟩) (Cert.ReferenceIdeal.Value.run (F := Ideal) m' g')⟩
  rw [hagree c]
  exact reference_rows _ (hx c)

theorem claim : Cert.Claim := ⟨Cert.Kernel.Gen.facts, Cert.KernelIdeal.Gen.facts, Cert.ReferenceIdeal.Gen.facts, Cert.Pre_classes.Gen.facts,
  frame_kernel, frame_kernelIdeal, frame_reference, fun m g _ => frame_reference m g trivial, trivial, values_equal⟩

end Cert.Proof

end
